-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_labelled_KernelIdeal [hPre_finite_labelled_KernelIdeal : Cert.Pre_finite_labelled_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_labelled_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_labelled_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_labelled_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_labelled_ReferenceIdeal [hPre_finite_labelled_ReferenceIdeal : Cert.Pre_finite_labelled_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_labelled_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_labelled_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_labelled_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_labelled_KernelIdeal [hKernelIdeal : Cert.KernelIdeal.Facts] [hPre_finite_labelled_KernelIdeal : Cert.Pre_finite_labelled_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_labelled_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_labelled_ReferenceIdeal [hReferenceIdeal : Cert.ReferenceIdeal.Facts] [hPre_finite_labelled_ReferenceIdeal : Cert.Pre_finite_labelled_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_labelled_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_labelled_KernelIdeal [hKernelIdeal : Cert.KernelIdeal.Facts] [hReferenceIdeal : Cert.ReferenceIdeal.Facts] [hPre_finite_labelled_KernelIdeal : Cert.Pre_finite_labelled_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_labelled_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 4096]⟩ ⟨2, ![512, 131072]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_labelled_KernelIdeal : Cert.Pre_finite_labelled_KernelIdeal.Facts) (hPre_finite_labelled_ReferenceIdeal : Cert.Pre_finite_labelled_ReferenceIdeal.Facts),
    quiescent_Kernel (hKernel := hKernel)
    ∧ quiescent_KernelIdeal (hKernelIdeal := hKernelIdeal)
    ∧ quiescent_KernelIdeal_pre_finite_labelled_KernelIdeal (hKernelIdeal := hKernelIdeal) (hPre_finite_labelled_KernelIdeal := hPre_finite_labelled_KernelIdeal)
    ∧ quiescent_ReferenceIdeal (hReferenceIdeal := hReferenceIdeal)
    ∧ quiescent_ReferenceIdeal_pre_finite_labelled_ReferenceIdeal (hReferenceIdeal := hReferenceIdeal) (hPre_finite_labelled_ReferenceIdeal := hPre_finite_labelled_ReferenceIdeal)
    ∧ preserves_Kernel_KernelIdeal
    ∧ algebraic_KernelIdeal_ReferenceIdeal_pre_finite_labelled_KernelIdeal (hKernelIdeal := hKernelIdeal) (hReferenceIdeal := hReferenceIdeal) (hPre_finite_labelled_KernelIdeal := hPre_finite_labelled_KernelIdeal)
-- ==== Pre_finite_labelled_KernelIdeal.lean ====
abbrev S256x512 : Shape := ⟨2, ![256, 512]⟩
abbrev S512x4096 : Shape := ⟨2, ![512, 4096]⟩
abbrev S256 : Shape := ⟨1, ![256]⟩
abbrev S_ : Shape := ⟨0, ![]⟩

class Facts : Prop where
  bcast_S_S256x512 : S_.BroadcastsInDim S256x512 (![] : Fin 0 → Fin S256x512.rank)
  bcast_S_S512x4096 : S_.BroadcastsInDim S512x4096 (![] : Fin 0 → Fin S512x4096.rank)
  bcast_S_S256 : S_.BroadcastsInDim S256 (![] : Fin 0 → Fin S256.rank)

variable [Facts]

def fn {F : FTy → Type} [FloatOps F] (main_arg0 : FVec F S256x512 .f32) (main_arg1 : FVec F S512x4096 .f32) (main_arg2 : IVec S256 32) : IVec S256x512 1 × IVec S512x4096 1 × IVec S256 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_v3 : FVec F S512x4096 .f32 := Host.absf main_arg1
  let main_cst_0 : FVec F S_ .f32 := constant S_ .f32 0x7F800000#32
  let main_v4 : FVec F S512x4096 .f32 := broadcastInDim S512x4096 ![] bcast_S_S512x4096 main_cst_0
  let main_v5 : IVec S512x4096 1 := cmpf .olt main_v3 main_v4
  let main_c : IVec S_ 32 := constantI S_ 32 0#32
  let main_v6 : IVec S256 32 := broadcastInDim S256 ![] bcast_S_S256 main_c
  let main_v7 : IVec S256 1 := cmpi .sge main_arg2 main_v6
  let main_c_1 : IVec S_ 32 := constantI S_ 32 131072#32
  let main_v8 : IVec S256 32 := broadcastInDim S256 ![] bcast_S_S256 main_c_1
  let main_v9 : IVec S256 1 := cmpi .slt main_arg2 main_v8
  let main_v10 : IVec S256 1 := andi main_v7 main_v9
  (main_v2, main_v5, main_v10)
-- ==== Pre_finite_labelled_ReferenceIdeal.lean ====
abbrev S256x512 : Shape := ⟨2, ![256, 512]⟩
abbrev S512x131072 : Shape := ⟨2, ![512, 131072]⟩
abbrev S256 : Shape := ⟨1, ![256]⟩
abbrev S_ : Shape := ⟨0, ![]⟩

class Facts : Prop where
  bcast_S_S256x512 : S_.BroadcastsInDim S256x512 (![] : Fin 0 → Fin S256x512.rank)
  bcast_S_S512x131072 : S_.BroadcastsInDim S512x131072 (![] : Fin 0 → Fin S512x131072.rank)
  bcast_S_S256 : S_.BroadcastsInDim S256 (![] : Fin 0 → Fin S256.rank)

variable [Facts]

def fn {F : FTy → Type} [FloatOps F] (main_arg0 : FVec F S256x512 .f32) (main_arg1 : FVec F S512x131072 .f32) (main_arg2 : IVec S256 32) : IVec S256x512 1 × IVec S512x131072 1 × IVec S256 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_v3 : FVec F S512x131072 .f32 := Host.absf main_arg1
  let main_cst_0 : FVec F S_ .f32 := constant S_ .f32 0x7F800000#32
  let main_v4 : FVec F S512x131072 .f32 := broadcastInDim S512x131072 ![] bcast_S_S512x131072 main_cst_0
  let main_v5 : IVec S512x131072 1 := cmpf .olt main_v3 main_v4
  let main_c : IVec S_ 32 := constantI S_ 32 0#32
  let main_v6 : IVec S256 32 := broadcastInDim S256 ![] bcast_S_S256 main_c
  let main_v7 : IVec S256 1 := cmpi .sge main_arg2 main_v6
  let main_c_1 : IVec S_ 32 := constantI S_ 32 131072#32
  let main_v8 : IVec S256 32 := broadcastInDim S256 ![] bcast_S_S256 main_c_1
  let main_v9 : IVec S256 1 := cmpi .slt main_arg2 main_v8
  let main_v10 : IVec S256 1 := andi main_v7 main_v9
  (main_v2, main_v5, main_v10)
-- ==== Kernel.lean ====
abbrev S256x512 : Shape := ⟨2, ![256, 512]⟩
abbrev S512x4096 : Shape := ⟨2, ![512, 4096]⟩
abbrev S256 : Shape := ⟨1, ![256]⟩
abbrev S32x2x256 : Shape := ⟨3, ![32, 2, 256]⟩
abbrev S32 : Shape := ⟨1, ![32]⟩
abbrev S_ : Shape := ⟨0, ![]⟩
abbrev S256x4096 : Shape := ⟨2, ![256, 4096]⟩
abbrev S256x1 : Shape := ⟨2, ![256, 1]⟩
abbrev S1x1x256 : Shape := ⟨3, ![1, 1, 256]⟩
abbrev S1 : Shape := ⟨1, ![1]⟩
abbrev S1x2x256 : Shape := ⟨3, ![1, 2, 256]⟩
abbrev S2x256 : Shape := ⟨2, ![2, 256]⟩
abbrev S32x1x256 : Shape := ⟨3, ![32, 1, 256]⟩
abbrev S32x256 : Shape := ⟨2, ![32, 256]⟩

abbrev nBuf : Space → Nat
  | .hbm => 4
  | .vmem => 5
  | .smem => 0
  | _ => 0

abbrev bufTy : (tb : Table) → Fin (tcTables nBuf tb) → BufTy
  | .hbm, ⟨0, _⟩ => ⟨S256x512, .f32⟩
  | .hbm, ⟨1, _⟩ => ⟨S512x4096, .f32⟩
  | .hbm, ⟨2, _⟩ => ⟨S256, .i32⟩
  | .hbm, ⟨3, _⟩ => ⟨S256, .f32⟩
  | .local _ .vmem, ⟨0, _⟩ => ⟨S256x512, .f32⟩
  | .local _ .vmem, ⟨1, _⟩ => ⟨S512x4096, .f32⟩
  | .local _ .vmem, ⟨2, _⟩ => ⟨S256, .i32⟩
  | .local _ .vmem, ⟨3, _⟩ => ⟨S256, .f32⟩
  | .local _ .vmem, ⟨4, _⟩ => ⟨S32x2x256, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_dev32 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_137 : BitVec 32 := 1#32
  let v153 : BitVec 32 := Scalar.addi v2 c1_i32_137
  let c32_i32_138 : BitVec 32 := 32#32
  let v154 : BitVec 32 := Scalar.remsi v153 c32_i32_138
  v154.toNat
def k0_dev33 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_147 : BitVec 32 := 2#32
  let v163 : BitVec 32 := Scalar.addi v2 c2_i32_147
  let c32_i32_148 : BitVec 32 := 32#32
  let v164 : BitVec 32 := Scalar.remsi v163 c32_i32_148
  v164.toNat
def k0_dev34 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_157 : BitVec 32 := 3#32
  let v173 : BitVec 32 := Scalar.addi v2 c3_i32_157
  let c32_i32_158 : BitVec 32 := 32#32
  let v174 : BitVec 32 := Scalar.remsi v173 c32_i32_158
  v174.toNat
def k0_dev35 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_167 : BitVec 32 := 4#32
  let v183 : BitVec 32 := Scalar.addi v2 c4_i32_167
  let c32_i32_168 : BitVec 32 := 32#32
  let v184 : BitVec 32 := Scalar.remsi v183 c32_i32_168
  v184.toNat
def k0_dev36 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_177 : BitVec 32 := 5#32
  let v193 : BitVec 32 := Scalar.addi v2 c5_i32_177
  let c32_i32_178 : BitVec 32 := 32#32
  let v194 : BitVec 32 := Scalar.remsi v193 c32_i32_178
  v194.toNat
def k0_dev37 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_187 : BitVec 32 := 6#32
  let v203 : BitVec 32 := Scalar.addi v2 c6_i32_187
  let c32_i32_188 : BitVec 32 := 32#32
  let v204 : BitVec 32 := Scalar.remsi v203 c32_i32_188
  v204.toNat
def k0_dev38 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_197 : BitVec 32 := 7#32
  let v213 : BitVec 32 := Scalar.addi v2 c7_i32_197
  let c32_i32_198 : BitVec 32 := 32#32
  let v214 : BitVec 32 := Scalar.remsi v213 c32_i32_198
  v214.toNat
def k0_dev39 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_207 : BitVec 32 := 8#32
  let v223 : BitVec 32 := Scalar.addi v2 c8_i32_207
  let c32_i32_208 : BitVec 32 := 32#32
  let v224 : BitVec 32 := Scalar.remsi v223 c32_i32_208
  v224.toNat
def k0_dev40 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_217 : BitVec 32 := 9#32
  let v233 : BitVec 32 := Scalar.addi v2 c9_i32_217
  let c32_i32_218 : BitVec 32 := 32#32
  let v234 : BitVec 32 := Scalar.remsi v233 c32_i32_218
  v234.toNat
def k0_dev41 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_227 : BitVec 32 := 10#32
  let v243 : BitVec 32 := Scalar.addi v2 c10_i32_227
  let c32_i32_228 : BitVec 32 := 32#32
  let v244 : BitVec 32 := Scalar.remsi v243 c32_i32_228
  v244.toNat
def k0_dev42 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_237 : BitVec 32 := 11#32
  let v253 : BitVec 32 := Scalar.addi v2 c11_i32_237
  let c32_i32_238 : BitVec 32 := 32#32
  let v254 : BitVec 32 := Scalar.remsi v253 c32_i32_238
  v254.toNat
def k0_dev43 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_247 : BitVec 32 := 12#32
  let v263 : BitVec 32 := Scalar.addi v2 c12_i32_247
  let c32_i32_248 : BitVec 32 := 32#32
  let v264 : BitVec 32 := Scalar.remsi v263 c32_i32_248
  v264.toNat
def k0_dev44 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_257 : BitVec 32 := 13#32
  let v273 : BitVec 32 := Scalar.addi v2 c13_i32_257
  let c32_i32_258 : BitVec 32 := 32#32
  let v274 : BitVec 32 := Scalar.remsi v273 c32_i32_258
  v274.toNat
def k0_dev45 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_267 : BitVec 32 := 14#32
  let v283 : BitVec 32 := Scalar.addi v2 c14_i32_267
  let c32_i32_268 : BitVec 32 := 32#32
  let v284 : BitVec 32 := Scalar.remsi v283 c32_i32_268
  v284.toNat
def k0_dev46 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_277 : BitVec 32 := 15#32
  let v293 : BitVec 32 := Scalar.addi v2 c15_i32_277
  let c32_i32_278 : BitVec 32 := 32#32
  let v294 : BitVec 32 := Scalar.remsi v293 c32_i32_278
  v294.toNat
def k0_dev47 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_287 : BitVec 32 := 16#32
  let v303 : BitVec 32 := Scalar.addi v2 c16_i32_287
  let c32_i32_288 : BitVec 32 := 32#32
  let v304 : BitVec 32 := Scalar.remsi v303 c32_i32_288
  v304.toNat
def k0_dev48 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_297 : BitVec 32 := 17#32
  let v313 : BitVec 32 := Scalar.addi v2 c17_i32_297
  let c32_i32_298 : BitVec 32 := 32#32
  let v314 : BitVec 32 := Scalar.remsi v313 c32_i32_298
  v314.toNat
def k0_dev49 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_307 : BitVec 32 := 18#32
  let v323 : BitVec 32 := Scalar.addi v2 c18_i32_307
  let c32_i32_308 : BitVec 32 := 32#32
  let v324 : BitVec 32 := Scalar.remsi v323 c32_i32_308
  v324.toNat
def k0_dev50 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_317 : BitVec 32 := 19#32
  let v333 : BitVec 32 := Scalar.addi v2 c19_i32_317
  let c32_i32_318 : BitVec 32 := 32#32
  let v334 : BitVec 32 := Scalar.remsi v333 c32_i32_318
  v334.toNat
def k0_dev51 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_327 : BitVec 32 := 20#32
  let v343 : BitVec 32 := Scalar.addi v2 c20_i32_327
  let c32_i32_328 : BitVec 32 := 32#32
  let v344 : BitVec 32 := Scalar.remsi v343 c32_i32_328
  v344.toNat
def k0_dev52 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_337 : BitVec 32 := 21#32
  let v353 : BitVec 32 := Scalar.addi v2 c21_i32_337
  let c32_i32_338 : BitVec 32 := 32#32
  let v354 : BitVec 32 := Scalar.remsi v353 c32_i32_338
  v354.toNat
def k0_dev53 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_347 : BitVec 32 := 22#32
  let v363 : BitVec 32 := Scalar.addi v2 c22_i32_347
  let c32_i32_348 : BitVec 32 := 32#32
  let v364 : BitVec 32 := Scalar.remsi v363 c32_i32_348
  v364.toNat
def k0_dev54 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_357 : BitVec 32 := 23#32
  let v373 : BitVec 32 := Scalar.addi v2 c23_i32_357
  let c32_i32_358 : BitVec 32 := 32#32
  let v374 : BitVec 32 := Scalar.remsi v373 c32_i32_358
  v374.toNat
def k0_dev55 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_367 : BitVec 32 := 24#32
  let v383 : BitVec 32 := Scalar.addi v2 c24_i32_367
  let c32_i32_368 : BitVec 32 := 32#32
  let v384 : BitVec 32 := Scalar.remsi v383 c32_i32_368
  v384.toNat
def k0_dev56 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_377 : BitVec 32 := 25#32
  let v393 : BitVec 32 := Scalar.addi v2 c25_i32_377
  let c32_i32_378 : BitVec 32 := 32#32
  let v394 : BitVec 32 := Scalar.remsi v393 c32_i32_378
  v394.toNat
def k0_dev57 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_387 : BitVec 32 := 26#32
  let v403 : BitVec 32 := Scalar.addi v2 c26_i32_387
  let c32_i32_388 : BitVec 32 := 32#32
  let v404 : BitVec 32 := Scalar.remsi v403 c32_i32_388
  v404.toNat
def k0_dev58 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_397 : BitVec 32 := 27#32
  let v413 : BitVec 32 := Scalar.addi v2 c27_i32_397
  let c32_i32_398 : BitVec 32 := 32#32
  let v414 : BitVec 32 := Scalar.remsi v413 c32_i32_398
  v414.toNat
def k0_dev59 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_407 : BitVec 32 := 28#32
  let v423 : BitVec 32 := Scalar.addi v2 c28_i32_407
  let c32_i32_408 : BitVec 32 := 32#32
  let v424 : BitVec 32 := Scalar.remsi v423 c32_i32_408
  v424.toNat
def k0_dev60 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_417 : BitVec 32 := 29#32
  let v433 : BitVec 32 := Scalar.addi v2 c29_i32_417
  let c32_i32_418 : BitVec 32 := 32#32
  let v434 : BitVec 32 := Scalar.remsi v433 c32_i32_418
  v434.toNat
def k0_dev61 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_427 : BitVec 32 := 30#32
  let v443 : BitVec 32 := Scalar.addi v2 c30_i32_427
  let c32_i32_428 : BitVec 32 := 32#32
  let v444 : BitVec 32 := Scalar.remsi v443 c32_i32_428
  v444.toNat
def k0_dev62 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_437 : BitVec 32 := 31#32
  let v453 : BitVec 32 := Scalar.addi v2 c31_i32_437
  let c32_i32_438 : BitVec 32 := 32#32
  let v454 : BitVec 32 := Scalar.remsi v453 c32_i32_438
  v454.toNat
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S256x512 : Shape := ⟨2, ![256, 512]⟩
abbrev S512x131072 : Shape := ⟨2, ![512, 131072]⟩
abbrev S256 : Shape := ⟨1, ![256]⟩
abbrev S256x131072 : Shape := ⟨2, ![256, 131072]⟩
abbrev S_ : Shape := ⟨0, ![]⟩
abbrev S256x1 : Shape := ⟨2, ![256, 1]⟩
abbrev S256x2 : Shape := ⟨2, ![256, 2]⟩

abbrev nBuf : Space → Nat
  | .hbm => 36
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x131072, .f32⟩
  | .hbm, ⟨2, _⟩ => ⟨S256, .i32⟩
  | .hbm, ⟨3, _⟩ => ⟨S256x131072, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S256x131072, .f32⟩
  | .hbm, ⟨8, _⟩ => ⟨S256x131072, .f32⟩
  | .hbm, ⟨9, _⟩ => ⟨S256x131072, .f32⟩
  | .hbm, ⟨10, _⟩ => ⟨S_, .f32⟩
  | .hbm, ⟨11, _⟩ => ⟨S256, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256, .f32⟩
  | .hbm, ⟨16, _⟩ => ⟨S256, .i32⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S_, .i32⟩
  | .hbm, ⟨21, _⟩ => ⟨S256, .i32⟩
  | .hbm, ⟨22, _⟩ => ⟨S256, .i32⟩
  | .hbm, ⟨23, _⟩ => ⟨S256, .i32⟩
  | .hbm, ⟨24, _⟩ => ⟨S_, .i32⟩
  | .hbm, ⟨25, _⟩ => ⟨S256, .i32⟩
  | .hbm, ⟨26, _⟩ => ⟨S256, .i1⟩
  | .hbm, ⟨27, _⟩ => ⟨S_, .i32⟩
  | .hbm, ⟨28, _⟩ => ⟨S256, .i32⟩
  | .hbm, ⟨29, _⟩ => ⟨S256, .i32⟩
  | .hbm, ⟨30, _⟩ => ⟨S256, .i32⟩
  | .hbm, ⟨31, _⟩ => ⟨S256x1, .i32⟩
  | .hbm, ⟨32, _⟩ => ⟨S256x1, .i32⟩
  | .hbm, ⟨33, _⟩ => ⟨S256x2, .i32⟩
  | .hbm, ⟨34, _⟩ => ⟨S256, .f32⟩
  | .hbm, ⟨35, _⟩ => ⟨S256, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.Shape.lean ====
/-
  The kernel's text as four loops. The printed kernel spells its 31 signals, its 31 remote copies and its 62 waits out
  one after the other; here each family is a function of the list of offsets (and of the devices named), so that a
  proof about it is an induction, and `body_shape` says that the printed kernel is these loops around the computation.
-/
module

public import proofs.«01_k».proof.Proof.Gen.KernelIdeal.Skeleton

@[expose] public section

noncomputable section

namespace Cert.VocabProof

open Cert.KernelIdeal Cert.KernelIdeal.Gen

open Idealize.ShloMosaic
open Idealize.ShloMosaic.TcCoe
open Idealize.SL.Sem

variable {F : FTy → Type} [FloatOps F]

/-- Programs of the kernel's core. -/
abbrev KProg (F : FTy → Type) : Type 1 := Prog (TpuEff nD τ sig (Elt F) Λ₀ .tc) PUnit

/-! ## The buffers, the slots of the landing buffer and the semaphores -/

abbrev xM : Memref sig .tc .vmem S256x512 .f32 := Memref.whole cc0_stg0_0
abbrev wM : Memref sig .tc .vmem S512x4096 .f32 := Memref.whole cc0_stg1_0
abbrev labM : Memref sig .tc .vmem S256 .i32 := Memref.whole cc0_stg2_0
abbrev outM : Memref sig .tc .vmem S256 .f32 := Memref.whole cc0_stg3_0
abbrev gM : Memref sig .tc .vmem S32x2x256 .f32 := Memref.whole cc0_scratch0

/-- Slot `d` lies within the landing buffer. -/
theorem slot_inb (d : Fin 32) : ∀ a, (![d.val, 0, 0] : Fin 3 → Nat) a + S1x2x256.size a ≤ S32x2x256.size a := by
  revert d; decide

/-- Semaphore `d` lies within its array of 32. -/
theorem sem_inb (d : Fin 32) : ∀ a, (![d.val] : Fin 1 → Nat) a + S1.size a ≤ S32.size a := by
  revert d; decide

/-- Slot `d` of the landing buffer: its two rows of 256. -/
abbrev slotM (d : Fin 32) : Memref sig .tc .vmem S2x256 .f32 :=
  (gM.slice (Rect.unit (s := S32x2x256) ![d.val, 0, 0] S1x2x256.size (slot_inb d)) (fun _ => rfl)).squeeze S2x256 squeezes_S1x2x256_S2x256

/-- The semaphore the copy at offset `d` completes on at its source, -/
abbrev sendS (d : Fin 32) : DmaSem sig :=
  ((cc0_scratch1.slice (Rect.unit (s := S32) ![d.val] S1.size (sem_inb d))).squeeze S_ squeezes_S1_S_).sem

/-- and the one it completes on at its destination. -/
abbrev recvS (d : Fin 32) : DmaSem sig :=
  ((cc0_scratch2.slice (Rect.unit (s := S32) ![d.val] S1.size (sem_inb d))).squeeze S_ squeezes_S1_S_).sem

/-- The barrier semaphore that all the devices share. -/
abbrev barS : Sem sig := (SemArray.scalar (sig.barrier 0 rfl) : Sems sig S_).sem

/-! ## The loops -/

/-- One signal to each device of the list, then `k`. -/
def sigLoop : List (Dev nD) → KProg F → KProg F
  | [], k => k
  | n :: l, k => .op (.semSignal (n, .tc) barS (1#32).toInt) fun _ => sigLoop l k

/-- One copy of slot 0 per entry `(d, n)`, into slot `d` of device `n`, then `k`. -/
def sendLoop : List (Fin 32 × Dev nD) → KProg F → KProg F
  | [], k => k
  | (d, n) :: l, k =>
    .op (.enqueueDma (slotM 0) (.remote (Dev.tc n) (slotM d) (.dma (sendS d))) (.dma (recvS d))
      ((View.wordExact_bits rfl).reshape _ _) ((View.wordExact_bits rfl).reshape _ _) ⟨⟨rfl, Or.inl rfl⟩, trivial⟩)
      fun _ => sendLoop l k

/-- For each offset of the list the two waits of its copy, at the source and at the destination, then `k`. -/
def waitLoop : List (Fin 32) → KProg F → KProg F
  | [], k => k
  | d :: l, k =>
    .op (.waitDma2 (sendS d) (slotM d) (slotM 0) ((View.wordExact_bits rfl).reshape _ _) ((View.wordExact_bits rfl).reshape _ _)) fun _ =>
    .op (.waitDma2 (recvS d) (slotM 0) (slotM d) ((View.wordExact_bits rfl).reshape _ _) ((View.wordExact_bits rfl).reshape _ _)) fun _ =>
    waitLoop l k

/-! ## The kernel -/

/-- The devices the signals name, in program order. -/
def sigDevs (c : Dev nD) : List (Dev nD) :=
  [
   ⟨k0_dev1 c, k0_dev1_lt c⟩, ⟨k0_dev2 c, k0_dev2_lt c⟩, ⟨k0_dev3 c, k0_dev3_lt c⟩, ⟨k0_dev4 c, k0_dev4_lt c⟩,
     ⟨k0_dev5 c, k0_dev5_lt c⟩, ⟨k0_dev6 c, k0_dev6_lt c⟩, ⟨k0_dev7 c, k0_dev7_lt c⟩, ⟨k0_dev8 c, k0_dev8_lt c⟩,
     ⟨k0_dev9 c, k0_dev9_lt c⟩, ⟨k0_dev10 c, k0_dev10_lt c⟩, ⟨k0_dev11 c, k0_dev11_lt c⟩, ⟨k0_dev12 c, k0_dev12_lt c⟩,
     ⟨k0_dev13 c, k0_dev13_lt c⟩, ⟨k0_dev14 c, k0_dev14_lt c⟩, ⟨k0_dev15 c, k0_dev15_lt c⟩, ⟨k0_dev16 c, k0_dev16_lt c⟩,
     ⟨k0_dev17 c, k0_dev17_lt c⟩, ⟨k0_dev18 c, k0_dev18_lt c⟩, ⟨k0_dev19 c, k0_dev19_lt c⟩, ⟨k0_dev20 c, k0_dev20_lt c⟩,
     ⟨k0_dev21 c, k0_dev21_lt c⟩, ⟨k0_dev22 c, k0_dev22_lt c⟩, ⟨k0_dev23 c, k0_dev23_lt c⟩, ⟨k0_dev24 c, k0_dev24_lt c⟩,
     ⟨k0_dev25 c, k0_dev25_lt c⟩, ⟨k0_dev26 c, k0_dev26_lt c⟩, ⟨k0_dev27 c, k0_dev27_lt c⟩, ⟨k0_dev28 c, k0_dev28_lt c⟩,
     ⟨k0_dev29 c, k0_dev29_lt c⟩, ⟨k0_dev30 c, k0_dev30_lt c⟩, ⟨k0_dev31 c, k0_dev31_lt c⟩]

/-- The offsets of the copies with the devices they name, in program order. -/
def sendDevs (c : Dev nD) : List (Fin 32 × Dev nD) :=
  [
   (1, ⟨k0_dev32 c, k0_dev32_lt c⟩), (2, ⟨k0_dev33 c, k0_dev33_lt c⟩), (3, ⟨k0_dev34 c, k0_dev34_lt c⟩),
     (4, ⟨k0_dev35 c, k0_dev35_lt c⟩), (5, ⟨k0_dev36 c, k0_dev36_lt c⟩), (6, ⟨k0_dev37 c, k0_dev37_lt c⟩),
     (7, ⟨k0_dev38 c, k0_dev38_lt c⟩), (8, ⟨k0_dev39 c, k0_dev39_lt c⟩), (9, ⟨k0_dev40 c, k0_dev40_lt c⟩),
     (10, ⟨k0_dev41 c, k0_dev41_lt c⟩), (11, ⟨k0_dev42 c, k0_dev42_lt c⟩), (12, ⟨k0_dev43 c, k0_dev43_lt c⟩),
     (13, ⟨k0_dev44 c, k0_dev44_lt c⟩), (14, ⟨k0_dev45 c, k0_dev45_lt c⟩), (15, ⟨k0_dev46 c, k0_dev46_lt c⟩),
     (16, ⟨k0_dev47 c, k0_dev47_lt c⟩), (17, ⟨k0_dev48 c, k0_dev48_lt c⟩), (18, ⟨k0_dev49 c, k0_dev49_lt c⟩),
     (19, ⟨k0_dev50 c, k0_dev50_lt c⟩), (20, ⟨k0_dev51 c, k0_dev51_lt c⟩), (21, ⟨k0_dev52 c, k0_dev52_lt c⟩),
     (22, ⟨k0_dev53 c, k0_dev53_lt c⟩), (23, ⟨k0_dev54 c, k0_dev54_lt c⟩), (24, ⟨k0_dev55 c, k0_dev55_lt c⟩),
     (25, ⟨k0_dev56 c, k0_dev56_lt c⟩), (26, ⟨k0_dev57 c, k0_dev57_lt c⟩), (27, ⟨k0_dev58 c, k0_dev58_lt c⟩),
     (28, ⟨k0_dev59 c, k0_dev59_lt c⟩), (29, ⟨k0_dev60 c, k0_dev60_lt c⟩), (30, ⟨k0_dev61 c, k0_dev61_lt c⟩),
     (31, ⟨k0_dev62 c, k0_dev62_lt c⟩)]

/-- The offsets of the waits, in program order. -/
def offs : List (Fin 32) :=
  [1, 2, 3, 4, 5, 6, 7, 8, 9, 10, 11, 12, 13, 14, 15, 16, 17, 18, 19, 20, 21, 22, 23, 24, 25, 26, 27, 28, 29, 30, 31]

/-- The word the kernel takes its own position from. -/
def posW (c : Dev nD) : BitVec 32 := Scalar.remsi (Scalar.divsi (Dev.word c) 1#32) 32#32

/-- The computation before the barrier wait: the operands loaded, the two rows of slot 0 stored. -/
def compute (c : Dev nD) (k : KProg F) : KProg F :=
  .op (.load xM (Rect.unit (s := S256x512) ![0, 0] S256x512.size inb_S256x512_S256x512_0_0).toLoadRect (View.loadsAt_vmem h_S256x512)) fun x =>
  .op (.load wM (Rect.unit (s := S512x4096) ![0, 0] S512x4096.size inb_S512x4096_S512x4096_0_0).toLoadRect (View.loadsAt_vmem h_S512x4096)) fun w =>
  .op (.load labM (Rect.unit (s := S256) ![0] S256.size inb_S256_S256_0).toLoadRect (View.loadsAt_vmem h_S256)) fun lab =>
  .op (.load gM (Rect.unit (s := S32x2x256) ![0, 0, 0] S1x1x256.size inb_S32x2x256_S1x1x256_0_0_0).toLoadRect (View.loadsAt_vmem h_S1x1x256)) fun _ =>
  .op (.store gM (Rect.unit (s := S32x2x256) ![0, 0, 0] S1x1x256.size inb_S32x2x256_S1x1x256_0_0_0) (k0_pay3 x w) Finset.univ (View.stores_vmem_bits_univ h_S1x1x256 rfl) (.inl rfl)) fun _ =>
  .op (.load gM (Rect.unit (s := S32x2x256) ![0, 1, 0] S1x1x256.size inb_S32x2x256_S1x1x256_0_1_0).toLoadRect (View.loadsAt_vmem h_S1x1x256)) fun _ =>
  .op (.store gM (Rect.unit (s := S32x2x256) ![0, 1, 0] S1x1x256.size inb_S32x2x256_S1x1x256_0_1_0) (k0_pay4 (posW c) x w lab) Finset.univ (View.stores_vmem_bits_univ h_S1x1x256 rfl) (.inl rfl)) fun _ =>
  k

/-- The end: the landing buffer loaded whole, the result stored. -/
def finish : KProg F :=
  .op (.load gM (Rect.unit (s := S32x2x256) ![0, 0, 0] S32x2x256.size inb_S32x2x256_S32x2x256_0_0_0).toLoadRect (View.loadsAt_vmem h_S32x2x256)) fun g =>
  .op (.load outM (Rect.unit (s := S256) ![0] S256.size inb_S256_S256_0).toLoadRect (View.loadsAt_vmem h_S256)) fun _ =>
  .op (.store outM (Rect.unit (s := S256) ![0] S256.size inb_S256_S256_0) (k0_pay1 g (k0_pay5 g)) Finset.univ (View.stores_vmem_bits_univ h_S256 rfl) (.inl rfl)) fun _ =>
  .ret ⟨⟩

/-- The kernel on its buffers: the signals, the computation, the barrier wait, the copies, the waits, the end. -/
def bodyProg : KProg F :=
  .op .deviceId fun c =>
  sigLoop (sigDevs c) <| compute c <|
  .op (.semWait barS (31#32).toInt) fun _ =>
  sendLoop (sendDevs c) <| waitLoop offs finish

set_option maxRecDepth 65536 in
/-- The printed kernel on its buffers is `bodyProg`. -/
theorem body_shape : cc0_body (F := F) xM (Memref.isWhole_whole _) wM (Memref.isWhole_whole _) labM (Memref.isWhole_whole _)
    outM (Memref.isWhole_whole _) gM (Memref.isWhole_whole _) cc0_scratch1 cc0_scratch2 = bodyProg := rfl

end Cert.VocabProof

end
-- ==== Proof.Slots.lean ====
/-
  The landing buffer's slots: which elements slot `d` has, that the 32 slots partition the buffer, what the buffer of
  device `c` holds once every copy has landed, what a copy and the two stores leave there.
-/
module

public import proofs.«01_k».proof.Proof.Shape
public import Idealize.ShloMosaic.Lib.ValueIdxCore
public import Mathlib.Algebra.Group.Fin.Basic

@[expose] public section

noncomputable section

namespace Cert.VocabProof

open Cert.KernelIdeal Cert.KernelIdeal.Gen

open Idealize.ShloMosaic
open Idealize.ShloMosaic.TcCoe
open Idealize.ShloMosaic.ValueIdx (ix3)
open Idealize.SL.Sem

variable {F : FTy → Type} [FloatOps F]

/-! ## Devices by offset -/

/-- The device `d` places after `c`, the mesh taken as a ring. -/
def sh (c : Dev nD) (d : Fin 32) : Dev nD := ((c : Fin 32) + d : Fin 32)

theorem sh_neg (c : Dev nD) (d : Fin 32) : sh (sh c (-d)) d = c := neg_add_cancel_right (G := Fin 32) c d
theorem sh_neg' (c : Dev nD) (d : Fin 32) : sh (sh c d) (-d) = c := add_neg_cancel_right (G := Fin 32) c d
theorem sh_zero (c : Dev nD) : sh c (-0) = c := (congrArg (sh c) (neg_zero (G := Fin 32))).trans (add_zero (M := Fin 32) c)
theorem sh_left_cancel {c : Dev nD} {d e : Fin 32} (h : sh c d = sh c e) : d = e := add_left_cancel (G := Fin 32) (a := c) h

/-- Stepping `d` places forward is a bijection of the devices, for each `d`. -/
def shEquiv : Dev nD × Fin 32 ≃ Dev nD × Fin 32 where
  toFun x := (sh x.1 x.2, x.2)
  invFun x := (sh x.1 (-x.2), x.2)
  left_inv x := Prod.ext (sh_neg' x.1 x.2) rfl
  right_inv x := Prod.ext (sh_neg x.1 x.2) rfl

theorem offs_nodup : offs.Nodup := by decide
theorem offs_toFinset : offs.toFinset = Finset.univ.erase 0 := by decide
theorem offs_neg_nodup : (offs.map fun d => -d).Nodup := by decide
theorem offs_neg_toFinset : (offs.map fun d => -d).toFinset = Finset.univ.erase 0 := by decide

/-- The device the printed signals and copies name is the one `n` places on. -/
theorem dev_eq (c : Dev nD) (d : Fin 32) (n : Nat) (hn : n < nD) (h : n = (c.val + d.val) % 32) :
    (⟨n, hn⟩ : Dev nD) = sh c d := Fin.ext (by subst h; unfold sh; exact (Fin.val_add (c : Fin 32) d).symm)

set_option maxRecDepth 4096 in
/-- The signals go to the devices `1, 2, …, 31` places on, in this order, -/
theorem sigDevs_eq (c : Dev nD) : sigDevs c = offs.map (sh c) := by
  unfold sigDevs offs
  rw [dev_eq c 1 _ _ (k0_dev1_eq c), dev_eq c 2 _ _ (k0_dev2_eq c), dev_eq c 3 _ _ (k0_dev3_eq c),
    dev_eq c 4 _ _ (k0_dev4_eq c), dev_eq c 5 _ _ (k0_dev5_eq c), dev_eq c 6 _ _ (k0_dev6_eq c),
    dev_eq c 7 _ _ (k0_dev7_eq c), dev_eq c 8 _ _ (k0_dev8_eq c), dev_eq c 9 _ _ (k0_dev9_eq c),
    dev_eq c 10 _ _ (k0_dev10_eq c), dev_eq c 11 _ _ (k0_dev11_eq c), dev_eq c 12 _ _ (k0_dev12_eq c),
    dev_eq c 13 _ _ (k0_dev13_eq c), dev_eq c 14 _ _ (k0_dev14_eq c), dev_eq c 15 _ _ (k0_dev15_eq c),
    dev_eq c 16 _ _ (k0_dev16_eq c), dev_eq c 17 _ _ (k0_dev17_eq c), dev_eq c 18 _ _ (k0_dev18_eq c),
    dev_eq c 19 _ _ (k0_dev19_eq c), dev_eq c 20 _ _ (k0_dev20_eq c), dev_eq c 21 _ _ (k0_dev21_eq c),
    dev_eq c 22 _ _ (k0_dev22_eq c), dev_eq c 23 _ _ (k0_dev23_eq c), dev_eq c 24 _ _ (k0_dev24_eq c),
    dev_eq c 25 _ _ (k0_dev25_eq c), dev_eq c 26 _ _ (k0_dev26_eq c), dev_eq c 27 _ _ (k0_dev27_eq c),
    dev_eq c 28 _ _ (k0_dev28_eq c), dev_eq c 29 _ _ (k0_dev29_eq c), dev_eq c 30 _ _ (k0_dev30_eq c),
    dev_eq c 31 _ _ (k0_dev31_eq c)]
  rfl

set_option maxRecDepth 4096 in
/-- and so do the copies. -/
theorem sendDevs_eq (c : Dev nD) : sendDevs c = offs.map fun d => (d, sh c d) := by
  unfold sendDevs offs
  rw [dev_eq c 1 _ _ (k0_dev32_eq c), dev_eq c 2 _ _ (k0_dev33_eq c), dev_eq c 3 _ _ (k0_dev34_eq c),
    dev_eq c 4 _ _ (k0_dev35_eq c), dev_eq c 5 _ _ (k0_dev36_eq c), dev_eq c 6 _ _ (k0_dev37_eq c),
    dev_eq c 7 _ _ (k0_dev38_eq c), dev_eq c 8 _ _ (k0_dev39_eq c), dev_eq c 9 _ _ (k0_dev40_eq c),
    dev_eq c 10 _ _ (k0_dev41_eq c), dev_eq c 11 _ _ (k0_dev42_eq c), dev_eq c 12 _ _ (k0_dev43_eq c),
    dev_eq c 13 _ _ (k0_dev44_eq c), dev_eq c 14 _ _ (k0_dev45_eq c), dev_eq c 15 _ _ (k0_dev46_eq c),
    dev_eq c 16 _ _ (k0_dev47_eq c), dev_eq c 17 _ _ (k0_dev48_eq c), dev_eq c 18 _ _ (k0_dev49_eq c),
    dev_eq c 19 _ _ (k0_dev50_eq c), dev_eq c 20 _ _ (k0_dev51_eq c), dev_eq c 21 _ _ (k0_dev52_eq c),
    dev_eq c 22 _ _ (k0_dev53_eq c), dev_eq c 23 _ _ (k0_dev54_eq c), dev_eq c 24 _ _ (k0_dev55_eq c),
    dev_eq c 25 _ _ (k0_dev56_eq c), dev_eq c 26 _ _ (k0_dev57_eq c), dev_eq c 27 _ _ (k0_dev58_eq c),
    dev_eq c 28 _ _ (k0_dev59_eq c), dev_eq c 29 _ _ (k0_dev60_eq c), dev_eq c 30 _ _ (k0_dev61_eq c),
    dev_eq c 31 _ _ (k0_dev62_eq c)]
  rfl

/-! ## The slots' elements -/

/-- The coordinates of an element of the landing buffer: its slot, its row, its position. -/
def cd0 (i : S32x2x256.Idx) : Fin 32 := i 0
def cd1 (i : S32x2x256.Idx) : Fin 2 := i 1
def cd2 (i : S32x2x256.Idx) : Fin 256 := i 2

/-- Slot `d` is the elements whose first coordinate is `d`. -/
theorem mem_slot (d : Fin 32) (i : S32x2x256.Idx) : i ∈ (slotM d).view.set ↔ cd0 i = d := by
  have h : (slotM d).view.set = (Rect.unit (s := S32x2x256) ![d.val, 0, 0] S1x2x256.size (slot_inb d)).set :=
    (View.set_reshape _ _).trans (View.set_slice_whole _ _)
  rw [h, Rect.mem_set_unit]
  constructor
  · intro hi
    have h0 := hi 0
    have h1 : d.val ≤ (i 0).val := h0.1
    have h2 : (i 0).val < d.val + 1 := h0.2
    exact Fin.ext (Nat.le_antisymm (Nat.le_of_lt_succ h2) h1)
  · rintro rfl a
    match a with
    | ⟨0, _⟩ => exact ⟨le_refl _, Nat.lt_succ_self _⟩
    | ⟨1, _⟩ => exact ⟨Nat.zero_le _, (i 1).isLt.trans_le (by simp)⟩
    | ⟨2, _⟩ => exact ⟨Nat.zero_le _, (i 2).isLt.trans_le (by simp)⟩

/-- The slots are pairwise disjoint -/
theorem slot_disjoint (d e : Fin 32) (h : d ≠ e) : Disjoint (slotM d).view.set (slotM e).view.set :=
  Finset.disjoint_left.mpr fun i hi hj => h (((mem_slot d i).mp hi).symm.trans ((mem_slot e i).mp hj))

/-- and cover the buffer. -/
theorem slots_cover : (Finset.univ : Finset (Fin 32)).biUnion (fun d => (slotM d).view.set) = (Finset.univ : Finset (cc0_scratch0 : Ref sig .tc).ty.Idx) :=
  Finset.eq_univ_iff_forall.mpr fun i => Finset.mem_biUnion.mpr ⟨cd0 i, Finset.mem_univ _, (mem_slot _ i).mpr rfl⟩

/-- The element of slot `d` at position `y`: its slot is `d`, -/
theorem slot_emb_zero (d : Fin 32) (y : S2x256.Idx) : cd0 ((slotM d).view.emb y) = d := (mem_slot d _).mp (View.emb_mem_set _ y)
/-- its row and position do not depend on `d`. -/
theorem slot_emb_one (d e : Fin 32) (y : S2x256.Idx) : cd1 ((slotM d).view.emb y) = cd1 ((slotM e).view.emb y) := rfl
theorem slot_emb_two (d e : Fin 32) (y : S2x256.Idx) : cd2 ((slotM d).view.emb y) = cd2 ((slotM e).view.emb y) := rfl

/-! ## Contents -/

/-- The two rows a device sends, from its operands and its position: row 0 the sums of the exponentials, row 1 the
    labelled logits. -/
def part (p : BitVec 32) (x : Vec F S256x512 .f32) (w : Vec F S512x4096 .f32) (lab : Vec F S256 .i32) (r : Fin 2) (t : Fin 256) :
    Elt F .f32 :=
  if r = 0 then k0_pay3 x w (ix3 0 0 t) else k0_pay4 p x w lab (ix3 0 0 t)

/-- The landing buffer of device `c` once all has landed, the devices' rows given by `P`: slot `d` holds the rows of the
    device `d` places before `c`. -/
def gathered (P : Dev nD → Fin 2 → Fin 256 → Elt F .f32) (c : Dev nD) : (cc0_scratch0 : Ref sig .tc).ty.Contents (Elt F) :=
  fun i : S32x2x256.Idx => P (sh c (-cd0 i)) (cd1 i) (cd2 i)

omit [FloatOps F] in
/-- A copy of device `c`'s slot 0 into slot `d` of the device `d` places after it leaves that slot as it is to be. -/
theorem copied (P : Dev nD → Fin 2 → Fin 256 → Elt F .f32) (c : Dev nD) (d : Fin 32) (f : (cc0_scratch0 : Ref sig .tc).ty.Contents (Elt F))
    (i : S32x2x256.Idx) (hi : i ∈ (slotM d).view.set) :
    (slotM d).view.write (Elt F) f ((slotM 0).view.read (Elt F) (gathered P c)) Finset.univ i = gathered P (sh c d) i := by
  obtain ⟨y, -, rfl⟩ := Finset.mem_map.mp hi
  refine (View.write_emb_of_mem (v := (slotM d).view) f _ (Finset.mem_univ y)).trans ?_
  show P (sh c (-cd0 ((slotM 0).view.emb y))) (cd1 ((slotM 0).view.emb y)) (cd2 ((slotM 0).view.emb y))
    = P (sh (sh c d) (-cd0 ((slotM d).view.emb y))) (cd1 ((slotM d).view.emb y)) (cd2 ((slotM d).view.emb y))
  rw [slot_emb_zero, slot_emb_zero, sh_zero, sh_neg', slot_emb_one 0 d, slot_emb_two 0 d]

/-- The rectangle of row `r` of slot 0. -/
abbrev rowR0 : Rect S32x2x256 := Rect.unit (s := S32x2x256) ![0, 0, 0] S1x1x256.size inb_S32x2x256_S1x1x256_0_0_0
abbrev rowR1 : Rect S32x2x256 := Rect.unit (s := S32x2x256) ![0, 1, 0] S1x1x256.size inb_S32x2x256_S1x1x256_0_1_0

theorem row0_sub : gM.view.setOn rowR0.set ⊆ (slotM 0).view.set := fun i hi => by
  obtain ⟨j, hj, rfl⟩ := Finset.mem_map.mp hi
  have h := Rect.mem_set_unit.mp hj 0
  exact (mem_slot 0 _).mpr (Fin.ext (by have h2 : (j 0).val < 0 + 1 := h.2; show (j 0).val = 0; omega))
theorem row1_sub : gM.view.setOn rowR1.set ⊆ (slotM 0).view.set := fun i hi => by
  obtain ⟨j, hj, rfl⟩ := Finset.mem_map.mp hi
  have h := Rect.mem_set_unit.mp hj 0
  exact (mem_slot 0 _).mpr (Fin.ext (by have h2 : (j 0).val < 0 + 1 := h.2; show (j 0).val = 0; omega))
theorem row0_acc : (gM.access rowR0).setOn Finset.univ ⊆ (slotM 0).view.set := by
  refine Finset.Subset.trans ?_ row0_sub
  rw [View.setOn_univ]; exact (View.set_slice gM.view rowR0).le
theorem row1_acc : (gM.access rowR1).setOn Finset.univ ⊆ (slotM 0).view.set := by
  refine Finset.Subset.trans ?_ row1_sub
  rw [View.setOn_univ]; exact (View.set_slice gM.view rowR1).le

/-- The two stores leave slot 0 as it is to be. -/
theorem stored (p : BitVec 32) (x : Vec F S256x512 .f32) (w : Vec F S512x4096 .f32) (lab : Vec F S256 .i32)
    (P : Dev nD → Fin 2 → Fin 256 → Elt F .f32) (c : Dev nD) (hP : P c = part p x w lab)
    (f : (cc0_scratch0 : Ref sig .tc).ty.Contents (Elt F)) (i : S32x2x256.Idx) (hi : i ∈ (slotM 0).view.set) :
    (gM.access rowR1).write (Elt F) ((gM.access rowR0).write (Elt F) f (k0_pay3 x w) Finset.univ) (k0_pay4 p x w lab) Finset.univ i
      = gathered P c i := by
  have h0 : cd0 i = 0 := (mem_slot 0 i).mp hi
  have h0' : (i 0).val = 0 := congrArg Fin.val h0
  have hg : gathered P c i = part p x w lab (cd1 i) (cd2 i) := by
    show P (sh c (-cd0 i)) (cd1 i) (cd2 i) = _
    rw [h0, sh_zero, hP]
  rw [hg]
  have h1 : (i 1).val < 2 := (i 1).isLt
  by_cases hr : (i 1).val = 0
  · have he : (gM.access rowR0).emb (ix3 0 0 (cd2 i) : S1x1x256.Idx) = i := funext fun a => Fin.ext (by
      match a with
      | ⟨0, _⟩ => exact h0'.symm
      | ⟨1, _⟩ => exact hr.symm
      | ⟨2, _⟩ => show 0 + 1 * (i 2).val = (i 2).val; omega)
    have hn : i ∉ (gM.access rowR1).setOn Finset.univ := fun hm => by
      rw [View.setOn_univ, View.set_slice_whole, Rect.mem_set_unit] at hm
      have h2 : 1 ≤ (i 1).val := (hm 1).1
      omega
    rw [View.write_of_not_mem _ _ _ hn]
    unfold part
    rw [if_pos (show cd1 i = 0 from Fin.ext hr)]
    conv_lhs => rw [← he]
    exact View.write_emb_of_mem _ _ (Finset.mem_univ _)
  · have he : (gM.access rowR1).emb (ix3 0 0 (cd2 i) : S1x1x256.Idx) = i := funext fun a => Fin.ext (by
      match a with
      | ⟨0, _⟩ => exact h0'.symm
      | ⟨1, _⟩ => show 1 = (i 1).val; omega
      | ⟨2, _⟩ => show 0 + 1 * (i 2).val = (i 2).val; omega)
    unfold part
    rw [if_neg (show ¬ cd1 i = 0 from fun h => hr (congrArg Fin.val h))]
    conv_lhs => rw [← he]
    exact View.write_emb_of_mem _ _ (Finset.mem_univ _)

end Cert.VocabProof

end
-- ==== Proof.Schedule.lean ====
/-
  The protocol of the kernel as a schedule of rounds: the semaphores of a device, what each carries, what a device owes
  at launch, and the levels that order the waits.
-/
module

public import proofs.«01_k».proof.Proof.Slots
public import proofs.«01_k».proof.Proof.Gen.KernelIdeal.Launch
public import Idealize.ShloMosaic.Lib.Pipeline.Launch
public import Idealize.ShloMosaic.Lib.Pipeline.Kit
public import Idealize.ShloMosaic.Lib.Rounds.Family
public import Idealize.ShloMosaic.Lib.Transfers
public import Idealize.ShloMosaic.Lib.Tactic

@[expose] public section

noncomputable section

namespace Cert.VocabProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The rounds' ghost state, duties named by offsets; beside it the pipeline's. -/
abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores -/

/-- A device's semaphores: the barrier, then the send and the receive semaphore of each offset. -/
abbrev CIx : Type := Unit ⊕ (Fin 32 ⊕ Fin 32)

/-- The launch's own ones: the send and the receive semaphores. -/
abbrev osem : Fin 32 ⊕ Fin 32 → SemLoc sig := fun | .inl d => .dma (sendS d) | .inr d => .dma (recvS d)
/-- All of them. -/
abbrev csem : CIx → SemLoc sig := fun | .inl _ => .reg barS | .inr k => osem k

abbrev kcell (ck : Dev nD × CIx) : GSem nD τ sig := ((ck.1 : Thread nD τ), csem ck.2)
abbrev barCell (c : Dev nD) : GSem nD τ sig := ((c : Thread nD τ), .reg barS)
abbrev sendCell (c : Dev nD) (d : Fin 32) : GSem nD τ sig := ((c : Thread nD τ), .dma (sendS d))
abbrev recvCell (c : Dev nD) (d : Fin 32) : GSem nD τ sig := ((c : Thread nD τ), .dma (recvS d))

theorem sendS_val (d : Fin 32) : (sendS d).val = 4 + d.val := by revert d; decide
theorem recvS_val (d : Fin 32) : (recvS d).val = 36 + d.val := by revert d; decide

/-- Which of a device's semaphores a location is; none for the four that stage the operands and the result. -/
def role : SemLoc sig → Option CIx
  | .reg _ => some (.inl ())
  | .dma q => if q.val < 4 then none
    else if q.val < 36 then some (.inr (.inl (Fin.ofNat 32 (q.val - 4))))
    else some (.inr (.inr (Fin.ofNat 32 (q.val - 36))))

theorem role_csem (k : CIx) : role (csem k) = some k := by
  rcases k with ⟨⟩ | d | d
  · rfl
  · show role (.dma (sendS d)) = _
    unfold role
    simp only [sendS_val]
    rw [if_neg (by omega), if_pos (by omega)]
    exact congrArg (fun x => some (Sum.inr (Sum.inl x))) (Fin.ext (by show (4 + d.val - 4) % 32 = d.val; omega))
  · show role (.dma (recvS d)) = _
    unfold role
    simp only [recvS_val]
    rw [if_neg (by omega), if_neg (by omega)]
    exact congrArg (fun x => some (Sum.inr (Sum.inr x))) (Fin.ext (by show (36 + d.val - 36) % 32 = d.val; omega))

theorem csem_injective : Function.Injective csem := fun k k' h =>
  Option.some_injective _ ((role_csem k).symm.trans ((congrArg role h).trans (role_csem k')))

theorem role_bar : role (.reg barS) = some (.inl ()) := rfl
theorem role_send (d : Fin 32) : role (.dma (sendS d)) = some (.inr (.inl d)) := role_csem (.inr (.inl d))
theorem role_recv (d : Fin 32) : role (.dma (recvS d)) = some (.inr (.inr d)) := role_csem (.inr (.inr d))

theorem kcell_injective : Function.Injective (kcell : Dev nD × CIx → GSem nD τ sig) := by
  rintro ⟨c, k⟩ ⟨c', k'⟩ h
  have h1 : c = c' := congrArg (fun g : GSem nD τ sig => g.1.1) h
  have h2 : csem k = csem k' := congrArg Prod.snd h
  rw [h1, csem_injective h2]

/-- The credit of one copy: a slot's. -/
abbrev N : ℕ := (slotM 0).view.dmaCredit
theorem N_pos : 0 < N := View.dmaCredit_pos _ (by decide)

/-! ## Contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The staged operands of device `c`. -/
def xstg (c : Dev nD) : (cc0_stg0_0 : Ref sig .tc).ty.Contents (Elt F) :=
  (win0_0.blk t0_0).view.read (Elt F) (m ((c : Thread nD τ).loc main_arg0))
def wstg (c : Dev nD) : (cc0_stg1_0 : Ref sig .tc).ty.Contents (Elt F) :=
  (win0_1.blk t0_0).view.read (Elt F) (m ((c : Thread nD τ).loc main_arg1))
def labstg (c : Dev nD) : (cc0_stg2_0 : Ref sig .tc).ty.Contents (Elt F) :=
  (win0_2.blk t0_0).view.read (Elt F) (m ((c : Thread nD τ).loc main_arg2))

/-- The two rows device `c` sends. -/
def P (c : Dev nD) : Fin 2 → Fin 256 → Elt F .f32 := part (posW c) (xstg m c) (wstg m c) (labstg m c)

/-- The landing buffer of device `c` once all has landed. -/
def landed (c : Dev nD) : (cc0_scratch0 : Ref sig .tc).ty.Contents (Elt F) := gathered (P m) c

/-- The result of device `c`. -/
def outAt (c : Dev nD) : (cc0_stg3_0 : Ref sig .tc).ty.Contents (Elt F) := k0_pay1 (landed m c) (k0_pay5 (landed m c))

/-- Slot `d` of device `c`'s landing buffer at share `q`, its contents those of `f`. -/
def slot (c : Dev nD) (d : Fin 32) (q : PosShare TreeShare) (f : (cc0_scratch0 : Ref sig .tc).ty.Contents (Elt F)) : sProp 𝕄 :=
  (slotM d).view.loc (c : Thread nD τ) ↦[(slotM d).view.set]{q} f

omit [FloatOps F] in
instance slot_storable (c : Dev nD) (d : Fin 32) (q : PosShare TreeShare) (f) : BI.Storable (upEmb : UEmb _ 𝕄) (slot (F := F) c d q f) := by
  unfold slot; infer_instance

omit [FloatOps F] in
/-- A slot's resource depends on the contents of that slot only. -/
theorem slot_congr (c : Dev nD) (d : Fin 32) (q : PosShare TreeShare) {f g : (cc0_scratch0 : Ref sig .tc).ty.Contents (Elt F)}
    (h : ∀ i : S32x2x256.Idx, i ∈ (slotM d).view.set → f i = g i) : (slot c d q f : sProp 𝕄) = slot c d q g := by
  unfold slot; exact pointsTo_congr h

omit [FloatOps F] in
/-- The whole landing buffer is its 32 slots. -/
theorem slots_eq (c : Dev nD) (f : (cc0_scratch0 : Ref sig .tc).ty.Contents (Elt F)) :
    (((c : Thread nD τ).loc cc0_scratch0) ↦{fullShare} f : sProp 𝕄) = bigSep Finset.univ fun d => slot c d fullShare f := by
  have h := pointsTo_biUnion (Ix := Unit) (Val := Elt F) (Name := ℕ) (U := UU) (Lvl := ℕ) (ℓ := (c : Thread nD τ).loc cc0_scratch0) (q := fullShare) (f := f)
    Finset.univ (fun d => (slotM d).view.set) (fun d _ e _ hde => slot_disjoint d e hde)
  rw [slots_cover] at h
  exact h

/-- Device `c`'s slot 0 as the copy at offset `d` reads it: one of the shares the slot is split into. -/
def srcTok (c : Dev nD) (d : Fin 32) : sProp 𝕄 := slot c 0 (Transfers.shareTok fullShare 32 d) (landed m c)
/-- What is left of slot 0 beside these shares. -/
def srcRest (c : Dev nD) : sProp 𝕄 := slot c 0 (Transfers.shareDrop fullShare 32) (landed m c)

instance srcTok_storable (c : Dev nD) (d : Fin 32) : BI.Storable (upEmb : UEmb _ 𝕄) (srcTok (F := F) m c d) := by
  unfold srcTok; infer_instance

/-- Slot 0 is that rest and the 32 shares. -/
theorem src_split (c : Dev nD) : (slot c 0 fullShare (landed m c) : sProp 𝕄) ⊣⊢ iprop(srcRest m c ∗ bigSep Finset.univ (srcTok m c)) := by
  unfold srcRest srcTok slot
  exact Transfers.pointsTo_toks fullShare 32

/-! ## The schedule -/

/-- One round. Device `c`'s barrier semaphore gets a unit from the device `d` places after it, for each `d ≠ 0`, and with
    it slot `d` of that device's landing buffer; its receive semaphore `d` the credit of the copy into its slot `d`, which
    comes with the slot as it is to be; its send semaphore `d` the credit of its copy at offset `d`, which gives the share
    of slot 0 back. -/
def ringRd : Rounds.Schedule (GSem nD τ sig) (Fin 32) 𝕄 where
  duties g r := if r = 0 ∧ g.1.2 = .tc then
      (match role g.2 with
        | some (.inl _) => Finset.univ.erase 0
        | some (.inr (.inl d)) => if d = 0 then ∅ else {0}
        | some (.inr (.inr d)) => if d = 0 then ∅ else {0}
        | none => ∅)
    else ∅
  unitless _ := False
  amount g _ _ := match role g.2 with | some (.inl _) => 1 | _ => N
  payload g _ e := match role g.2 with
    | some (.inl _) => iprop(∃ f, slot (sh g.1.1 e) e fullShare f)
    | some (.inr (.inl d)) => srcTok m g.1.1 d
    | some (.inr (.inr d)) => slot g.1.1 d fullShare (landed m g.1.1)
    | none => iprop(emp)
  amount_pos g _ _ _ := by split <;> first | exact Nat.one_pos | exact N_pos

instance ringRd_payload_storable (g : GSem nD τ sig) (r : ℕ) (d : Fin 32) :
    BI.Storable (upEmb : UEmb _ 𝕄) ((ringRd (F := F) m).payload g r d) := by
  show BI.Storable upEmb (match role g.2 with
    | some (.inl _) => iprop(∃ f, slot (sh g.1.1 d) d fullShare f)
    | some (.inr (.inl d)) => srcTok m g.1.1 d
    | some (.inr (.inr d)) => slot g.1.1 d fullShare (landed m g.1.1)
    | none => iprop(emp))
  split <;> infer_instance

section Sched
variable (c : Dev nD) (d : Fin 32)

theorem duties_bar : (ringRd (F := F) m).duties (barCell c) 0 = Finset.univ.erase 0 := by
  dsimp only [ringRd]; rw [if_pos ⟨rfl, rfl⟩, role_bar]
theorem duties_send (h : d ≠ 0) : (ringRd (F := F) m).duties (sendCell c d) 0 = {0} := by
  dsimp only [ringRd]; rw [if_pos ⟨rfl, rfl⟩, role_send]; exact if_neg h
theorem duties_recv (h : d ≠ 0) : (ringRd (F := F) m).duties (recvCell c d) 0 = {0} := by
  dsimp only [ringRd]; rw [if_pos ⟨rfl, rfl⟩, role_recv]; exact if_neg h
theorem duties_send_zero (r : ℕ) : (ringRd (F := F) m).duties (sendCell c 0) r = ∅ := by
  dsimp only [ringRd]; rw [role_send]; split <;> first | rfl | exact if_pos rfl
theorem duties_recv_zero (r : ℕ) : (ringRd (F := F) m).duties (recvCell c 0) r = ∅ := by
  dsimp only [ringRd]; rw [role_recv]; split <;> first | rfl | exact if_pos rfl
theorem duties_later (g : GSem nD τ sig) : ∀ r, 1 ≤ r → (ringRd (F := F) m).duties g r = ∅ :=
  fun r hr => by dsimp only [ringRd]; rw [if_neg fun h => by omega]

theorem amount_bar (e : Fin 32) : (ringRd (F := F) m).amount (barCell c) 0 e = 1 := by dsimp only [ringRd]; rw [role_bar]
theorem amount_send (e : Fin 32) : (ringRd (F := F) m).amount (sendCell c d) 0 e = N := by dsimp only [ringRd]; rw [role_send]
theorem amount_recv (e : Fin 32) : (ringRd (F := F) m).amount (recvCell c d) 0 e = N := by dsimp only [ringRd]; rw [role_recv]

theorem expect_bar : (ringRd (F := F) m).expect (barCell c) 0 = 31 := by
  unfold Schedule.expect Schedule.amountOf
  rw [duties_bar, Finset.sum_congr rfl fun d _ => amount_bar m c d, Finset.sum_const, smul_eq_mul, mul_one]; rfl
theorem expect_send (h : d ≠ 0) : (ringRd (F := F) m).expect (sendCell c d) 0 = N := by
  unfold Schedule.expect Schedule.amountOf; rw [duties_send m c d h, Finset.sum_singleton, amount_send]
theorem expect_recv (h : d ≠ 0) : (ringRd (F := F) m).expect (recvCell c d) 0 = N := by
  unfold Schedule.expect Schedule.amountOf; rw [duties_recv m c d h, Finset.sum_singleton, amount_recv]

theorem payload_bar (e : Fin 32) : (ringRd (F := F) m).payload (barCell c) 0 e = iprop(∃ f, slot (sh c e) e fullShare f) := by
  dsimp only [ringRd]; rw [role_bar]
theorem payload_send (e : Fin 32) : (ringRd (F := F) m).payload (sendCell c d) 0 e = srcTok m c d := by dsimp only [ringRd]; rw [role_send]
theorem payload_recv (e : Fin 32) : (ringRd (F := F) m).payload (recvCell c d) 0 e = slot c d fullShare (landed m c) := by
  dsimp only [ringRd]; rw [role_recv]

theorem rest_bar : bigSep ((ringRd (F := F) m).duties (barCell c) 0 \ ∅) (fun e => (ringRd (F := F) m).payload (barCell c) 0 e)
    = bigSep (Finset.univ.erase (0 : Fin 32)) fun e => iprop(∃ f, slot (sh c e) e fullShare f) := by
  rw [Finset.sdiff_empty, duties_bar]; exact bigSep_congr fun e _ => payload_bar m c e
theorem rest_send (h : d ≠ 0) : bigSep ((ringRd (F := F) m).duties (sendCell c d) 0 \ ∅) (fun e => (ringRd (F := F) m).payload (sendCell c d) 0 e) = srcTok m c d := by
  rw [Finset.sdiff_empty, duties_send m c d h, bigSep_singleton, payload_send]
theorem rest_recv (h : d ≠ 0) : bigSep ((ringRd (F := F) m).duties (recvCell c d) 0 \ ∅) (fun e => (ringRd (F := F) m).payload (recvCell c d) 0 e)
    = slot c d fullShare (landed m c) := by
  rw [Finset.sdiff_empty, duties_recv m c d h, bigSep_singleton, payload_recv]

end Sched

/-! ## What each device owes at launch; the levels -/

/-- The units device `c` owes the barriers of the devices at the offsets `l`, -/
def owedBar (c : Dev nD) (l : List (Fin 32)) : CellTallies nD τ sig Unit := (l.map fun e => tallyAt (barCell (sh c e)) () 1).sum
/-- and the credits it owes their receive semaphores. -/
def owedRecv (c : Dev nD) (l : List (Fin 32)) : CellTallies nD τ sig Unit := (l.map fun d => tallyAt (recvCell (sh c d) d) () N).sum
/-- What device `c` owes at launch. -/
def O₀ (c : Dev nD) : CellTallies nD τ sig Unit := owedRecv c offs + owedBar c offs

def L (g : GSem nD τ sig) : Finset Unit := if g.1.2 = .tc then {()} else ∅
/-- Barriers at 1, receive semaphores at 2, everything else at 0. -/
def lv (g : GSem nD τ sig) (_ : Unit) : ℕ := match role g.2 with | some (.inl _) => 1 | some (.inr (.inr _)) => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [role_bar]
theorem lv_recv (c : Dev nD) (d : Fin 32) : lv (recvCell c d) () = 2 := by unfold lv; rw [role_recv]

/-- A sum of tallies that is positive at a semaphore has a summand there. -/
theorem sum_tally_pos (g' : Fin 32 → GSem nD τ sig) (n : ℕ) (l : List (Fin 32)) {g : GSem nD τ sig} {u : Unit}
    (h : 0 < (l.map fun e => (tallyAt (g' e) () n : CellTallies nD τ sig Unit)).sum g u) : ∃ e, g = g' e := by
  induction l with
  | nil => exact absurd h (Nat.lt_irrefl 0)
  | cons e l ih =>
    rw [List.map_cons, List.sum_cons, Pi.add_apply, Finsupp.add_apply, tallyAt_apply] at h
    by_cases he : g = g' e ∧ u = ()
    · exact ⟨e, he.1⟩
    · rw [if_neg he, Nat.zero_add] at h; exact ih h

theorem O₀_pos {c : Dev nD} {g : GSem nD τ sig} {u : Unit} (h : 0 < O₀ c g u) :
    (∃ d, g = recvCell (sh c d) d) ∨ ∃ e, g = barCell (sh c e) := by
  unfold O₀ at h
  rw [Pi.add_apply, Finsupp.add_apply] at h
  rcases Nat.eq_zero_or_pos (owedRecv c offs g u) with h0 | h0
  · rw [h0, Nat.zero_add] at h; exact .inr (sum_tally_pos (fun e => barCell (sh c e)) 1 offs h)
  · exact .inl (sum_tally_pos (fun d => recvCell (sh c d) d) N offs h0)

/-- A staging semaphore may be waited on while a device owes what it owes at launch, or nothing. -/
theorem mayWait_stage (c : Dev nD) (q : DmaSem sig) (hq : role (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨_, rfl⟩ | ⟨_, rfl⟩ <;> exact Finset.mem_singleton_self _)
      (fun p hp => by rw [Finset.mem_singleton.mp hp]; unfold lv; rw [hq])
      (fun g u hg => by
        rcases O₀_pos hg with ⟨_, rfl⟩ | ⟨_, rfl⟩
        · rw [lv_recv]; decide
        · rw [lv_bar]; decide)
  · rw [MayWait_zero]; iintro -; iempintro

/-- At its barrier a device owes the credits of its copies only: receive semaphores, above the barriers. -/
theorem mayWait_bar (c : Dev nD) :
    (levAts L lv : sProp 𝕄) ⊢ MayWait (c : Thread nD τ) (.reg barS) () (owedRecv c offs) :=
  MayOwe.of_cut (L := L) (lev := lv) 1 (fun p hp => by rw [Finset.mem_singleton.mp hp, L_tc]; exact Finset.mem_singleton_self _)
    (fun g u hg => by
      obtain ⟨d, rfl⟩ := sum_tally_pos (fun d => recvCell (sh c d) d) N offs hg; exact Finset.mem_singleton_self _)
    (fun p hp => by rw [Finset.mem_singleton.mp hp]; exact (lv_bar c).le)
    (fun g u hg => by
      obtain ⟨d, rfl⟩ := sum_tally_pos (fun d => recvCell (sh c d) d) N offs hg; rw [lv_recv]; decide)

end Cert.VocabProof

end
-- ==== Proof.Loops.lean ====
/-
  The kernel's three families of operations under the protocol, each by induction on the offsets still to go: the
  signals, the copies, the waits.
-/
module

public import proofs.«01_k».proof.Proof.Schedule

@[expose] public section

noncomputable section

namespace Cert.VocabProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ)

omit [FloatOps F] in
/-- A family over a set with one index more is that index's resource beside the family over the rest. -/
theorem sep_insert {I : Type} [DecidableEq I] {i : I} {s : Finset I} (h : i ∉ s) {Φ : I → sProp 𝕄} :
    bigSep (insert i s) Φ = iprop(Φ i ∗ bigSep s Φ) := bigSep_insert h
omit [FloatOps F] in
/-- A family gives the resource of any of its indices. -/
theorem sep_elim {I : Type} [DecidableEq I] {i : I} {s : Finset I} (h : i ∈ s) {Φ : I → sProp 𝕄} : (bigSep s Φ : sProp 𝕄) ⊢ Φ i :=
  bigSep_elim h

theorem sigLoop_cons (n : Dev nD) (l : List (Dev nD)) (k : KProg F) :
    sigLoop (n :: l) k = .op (.semSignal (n, .tc) barS (1#32).toInt) fun _ => sigLoop l k := rfl
theorem sendLoop_cons (d : Fin 32) (n : Dev nD) (l : List (Fin 32 × Dev nD)) (k : KProg F) :
    sendLoop ((d, n) :: l) k = .op (.enqueueDma (slotM 0) (.remote (Dev.tc n) (slotM d) (.dma (sendS d))) (.dma (recvS d))
      ((View.wordExact_bits rfl).reshape _ _) ((View.wordExact_bits rfl).reshape _ _) ⟨⟨rfl, Or.inl rfl⟩, trivial⟩)
      fun _ => sendLoop l k := rfl
theorem waitLoop_cons (d : Fin 32) (l : List (Fin 32)) (k : KProg F) :
    waitLoop (d :: l) k
      = .op (.waitDma2 (sendS d) (slotM d) (slotM 0) ((View.wordExact_bits rfl).reshape _ _) ((View.wordExact_bits rfl).reshape _ _)) fun _ =>
        .op (.waitDma2 (recvS d) (slotM 0) (slotM d) ((View.wordExact_bits rfl).reshape _ _) ((View.wordExact_bits rfl).reshape _ _)) fun _ =>
        waitLoop l k := rfl

/-- Every semaphore's invariant under its name, and that each has reached round 0. -/
def records (K : Dev nD × CIx → ℕ) : sProp 𝕄 :=
  iprop((bigSep Finset.univ fun ck : Dev nD × CIx => cellInv ER (ringRd m) (K ck) (kcell ck))
    ∗ bigSep Finset.univ fun ck : Dev nD × CIx => reached ER (kcell ck) 0)

instance records_persistent (K : Dev nD × CIx → ℕ) : BI.Persistent (records m K) := by unfold records; infer_instance

theorem inv_at (K : Dev nD × CIx → ℕ) (ck : Dev nD × CIx) : records m K ⊢ cellInv ER (ringRd m) (K ck) (kcell ck) := by
  unfold records
  iintro ⟨H, -⟩
  iapply (sep_elim (Φ := fun ck : Dev nD × CIx => cellInv ER (ringRd m) (K ck) (kcell ck)) (Finset.mem_univ ck)); iexact H
theorem reached_at (K : Dev nD × CIx → ℕ) (ck : Dev nD × CIx) : records m K ⊢ reached ER (kcell ck) 0 := by
  unfold records
  iintro ⟨-, H⟩
  iapply (sep_elim (Φ := fun ck : Dev nD × CIx => reached ER (kcell ck) 0) (Finset.mem_univ ck)); iexact H

variable (K : Dev nD × CIx → ℕ) (c : Dev nD)

/-- What device `c` pays the barrier of the device `e` places after it with: the duty, and the slot that device copies into. -/
def sigRes (e : Fin 32) : sProp 𝕄 := iprop(dutyTok ER (barCell (sh c e)) 0 (-e) ∗ ∃ f, slot c (-e) fullShare f)

/-- The signals. -/
theorem sig_loop (l : List (Fin 32)) (hl : l.Nodup) (h0 : 0 ∉ l) (O : CellTallies nD τ sig Unit) (W : Waits sig Unit)
    (k : KProg F) (Q : PUnit → sProp 𝕄) :
    iprop(records m K ∗ owes (c : Thread nD τ) (O + owedBar c l) W ∗ bigSep l.toFinset (sigRes c))
      ⊢ iprop((owes (c : Thread nD τ) O W -∗ wp frame (wpE (defs₀ (F := F)) 𝒱₀ (c : Thread nD τ) none) Set.univ k Q)
          -∗ wp frame (wpE (defs₀ (F := F)) 𝒱₀ (c : Thread nD τ) none) Set.univ (sigLoop (l.map (sh c)) k) Q) := by
  induction l with
  | nil =>
    iintro ⟨-, HO, -⟩ Hk
    iapply Hk
    have h : O + owedBar c [] = O := add_zero O
    rw [h]; iexact HO
  | cons e l ih =>
    have hd : (-e : Fin 32) ≠ 0 := fun h => h0 (by rw [neg_eq_zero] at h; rw [h]; exact List.mem_cons_self)
    have hO : O + owedBar c (e :: l) = (O + owedBar c l) + tallyAt (barCell (sh c e)) () 1 := by
      unfold owedBar; rw [List.map_cons, List.sum_cons, add_assoc, add_comm (tallyAt _ _ _)]
    rw [List.toFinset_cons, sep_insert (fun h => (List.nodup_cons.mp hl).1 (List.mem_toFinset.mp h)), hO, List.map_cons, sigLoop_cons, sigRes]
    iintro ⟨#HR, HO, ⟨Htok, Hslot⟩, Hrest⟩ Hk
    iapply (Rounds.wp_signal 𝒱₀ ER (ringRd m) (c : Thread nD τ) none (dst := (sh c e : Thread nD τ)) (κ := K (sh c e, .inl ()))
        (d := -e) (by rw [duties_bar]; exact Finset.mem_erase.mpr ⟨hd, Finset.mem_univ _⟩) ((amount_bar m (sh c e) (-e)).trans (by decide)) () (O + owedBar c l) rfl)
      $$ [HO Htok Hslot]
    · isplitr; · iapply (inv_at m K (sh c e, .inl ())); iexact HR
      isplitl [HO]; · iexact HO
      isplitl [Htok]; · iexact Htok
      isplitl [Hslot]; · rw [payload_bar, sh_neg']; iexact Hslot
      iapply (reached_at m K (sh c e, .inl ())); iexact HR
    iintro HO
    iapply (ih (List.nodup_cons.mp hl).2 (fun h => h0 (List.mem_cons_of_mem _ h))) $$ [HO Hrest]
    · isplitr; · iexact HR
      isplitl [HO] <;> iassumption
    iexact Hk

/-- What the copy at offset `d` takes: the slot it lands in, its share of slot 0, the two duties it pays. -/
def sendRes (d : Fin 32) : sProp 𝕄 :=
  iprop((∃ f, slot (sh c d) d fullShare f) ∗ srcTok m c d ∗ dutyTok ER (sendCell c d) 0 0 ∗ dutyTok ER (recvCell (sh c d) d) 0 0)

/-- One copy: slot 0 of device `c` into slot `d` of the device `d` places after it. -/
theorem wp_copy (d : Fin 32) (hd : d ≠ 0) (fd : (cc0_scratch0 : Ref sig .tc).ty.Contents (Elt F)) (O : CellTallies nD τ sig Unit) (W : Waits sig Unit)
    {hsc : (slotM d : Memref sig (Dev.tc (sh c d) : Thread nD τ).2.kind .vmem S2x256 .f32).view.ref.isScScratch = false}
    {hsrc : (slotM 0).view.WordExact} {hdst : (slotM d).view.WordExact}
    {hsem : DmaTarget.Typed .vmem (.dma (recvS d)) (.remote (Dev.tc (sh c d) : Thread nD τ) (slotM d) (.dma (sendS d)) hsc)}
    {α : Type} {Q : α → sProp 𝕄} {k : PUnit → Prog (TpuEff nD τ sig (Elt F) Λ₀ .tc) α} :
    iprop(cellInv ER (ringRd m) (K (c, .inr (.inl d))) (sendCell c d) ∗ cellInv ER (ringRd m) (K (sh c d, .inr (.inr d))) (recvCell (sh c d) d)
        ∗ srcTok m c d ∗ slot (sh c d) d fullShare fd
        ∗ owes (c : Thread nD τ) (O + tallyAt (recvCell (sh c d) d) () N) W
        ∗ dutyTok ER (sendCell c d) 0 0 ∗ reached ER (sendCell c d) 0
        ∗ dutyTok ER (recvCell (sh c d) d) 0 0 ∗ reached ER (recvCell (sh c d) d) 0)
      ⊢ iprop(((cred (tallyAt (sendCell c d) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0) (.remote (Dev.tc (sh c d) : Thread nD τ) (slotM d) (.dma (sendS d)) hsc) (.dma (recvS d)) hsrc hdst hsem) k) Q) := by
  have hS : (0 : Fin 32) ∈ (ringRd (F := F) m).duties (sendCell c d) 0 := by rw [duties_send m c d hd]; exact Finset.mem_singleton_self _
  have hV : (0 : Fin 32) ∈ (ringRd (F := F) m).duties (recvCell (sh c d) d) 0 := by rw [duties_recv m (sh c d) d hd]; exact Finset.mem_singleton_self _
  have h1 : (srcTok (F := F) m c d) ⊢ (ringRd (F := F) m).payload (sendCell c d) 0 0 := by rw [payload_send]
  have h2 : (slot (sh c d) d fullShare ((slotM d).view.write (Elt F) fd ((slotM 0).view.read (Elt F) (landed m c)) Finset.univ) : sProp 𝕄)
      ⊢ (ringRd (F := F) m).payload (recvCell (sh c d) d) 0 0 := by
    rw [payload_recv]
    exact Entails.of_eq (slot_congr (sh c d) d fullShare fun i hi => copied (P m) c d fd i hi)
  have hN : (slotM d).view.amount (.dma (recvS d)) = N := rfl
  have hr : τ.routes (c : Thread nD τ) (sh c d : Thread nD τ) = true := by routes
  unfold srcTok slot at h1 h2 ⊢

  exact Rounds.wp_send_pointsTo (Q := Q) 𝒱₀ ER (ringRd m) (c : Thread nD τ) none (κ₁ := K (c, .inr (.inl d))) (κ₂ := K (sh c d, .inr (.inr d)))
    (c' := (sh c d : Thread nD τ)) (src := slotM 0) (dst := slotM d) (sS := .dma (sendS d)) (sem := .dma (recvS d)) (hsc := hsc) (hsrc := hsrc) (hdst := hdst) (hsem := hsem) (k := k)
    (q := Transfers.shareTok fullShare 32 d) (fs := landed m c) (r₁ := 0) (r₂ := 0) (d₁ := 0) (d₂ := 0) (fd := fd) hS hV () () N hN
    (amount_send m c d 0) (amount_recv m (sh c d) d 0) O rfl (W := W) h1 h2 (Es := Set.univ) hr

/-- The copies. -/
theorem send_loop (l : List (Fin 32)) (hl : l.Nodup) (h0 : 0 ∉ l) (O : CellTallies nD τ sig Unit) (W : Waits sig Unit)
    (k : KProg F) (Q : PUnit → sProp 𝕄) :
    iprop(records m K ∗ owes (c : Thread nD τ) (O + owedRecv c l) W ∗ bigSep l.toFinset (sendRes m c))
      ⊢ iprop((iprop(owes (c : Thread nD τ) O W ∗ bigSep l.toFinset fun d => cred (tallyAt (sendCell c d) () N))
            -∗ wp frame (wpE (defs₀ (F := F)) 𝒱₀ (c : Thread nD τ) none) Set.univ k Q)
          -∗ wp frame (wpE (defs₀ (F := F)) 𝒱₀ (c : Thread nD τ) none) Set.univ (sendLoop (l.map fun d => (d, sh c d)) k) Q) := by
  induction l generalizing k with
  | nil =>
    iintro ⟨-, HO, H⟩ Hk
    iapply Hk
    have h : O + owedRecv c [] = O := add_zero O
    rw [h]; isplitl [HO]; · iexact HO
    rw [List.toFinset_nil, bigSep_empty, bigSep_empty]; exact BI.Entails.refl _
  | cons d l ih =>
    have hd : d ≠ 0 := fun h => h0 (by rw [h]; exact List.mem_cons_self)
    have hnd : d ∉ l.toFinset := fun h => (List.nodup_cons.mp hl).1 (List.mem_toFinset.mp h)
    have hO : O + owedRecv c (d :: l) = (O + owedRecv c l) + tallyAt (recvCell (sh c d) d) () N := by
      unfold owedRecv; rw [List.map_cons, List.sum_cons, add_assoc, add_comm (tallyAt _ _ _)]
    rw [List.toFinset_cons, sep_insert hnd, sep_insert hnd, hO, List.map_cons, sendLoop_cons, sendRes]
    iintro ⟨#HR, HO, ⟨⟨%fd, Hdst⟩, Hsrc, HtS, HtR⟩, Hrest⟩ Hk
    iapply (wp_copy m K c d hd fd (O + owedRecv c l) W) $$ [HO Hdst Hsrc HtS HtR]
    · isplitr; · iapply (inv_at m K (c, .inr (.inl d))); iexact HR
      isplitr; · iapply (inv_at m K (sh c d, .inr (.inr d))); iexact HR
      isplitl [Hsrc]; · iexact Hsrc
      isplitl [Hdst]; · iexact Hdst
      isplitl [HO]; · iexact HO
      isplitl [HtS]; · iexact HtS
      isplitr; · iapply (reached_at m K (c, .inr (.inl d))); iexact HR
      isplitl [HtR]; · iexact HtR
      iapply (reached_at m K (sh c d, .inr (.inr d))); iexact HR
    iintro ⟨Hc, HO⟩
    iapply (ih (List.nodup_cons.mp hl).2 (fun h => h0 (List.mem_cons_of_mem _ h)) k) $$ [HO Hrest]
    · isplitr; · iexact HR
      isplitl [HO]; · iexact HO
      iexact Hrest
    iintro ⟨HO, Hcs⟩
    iapply Hk
    isplitl [HO]; · iexact HO
    isplitl [Hc] <;> iassumption

/-- What the two waits of offset `d` take: their credits and the positions of the two semaphores; -/
def waitPre (d : Fin 32) : sProp 𝕄 :=
  iprop(cred (tallyAt (sendCell c d) () N) ∗ cred (tallyAt (recvCell c d) () N) ∗ atPos ER (sendCell c d) 0 ∅ 0 ∗ atPos ER (recvCell c d) 0 ∅ 0)
/-- and what they give: the positions one round on, the share of slot 0, the slot landed. -/
def waitPost (d : Fin 32) : sProp 𝕄 :=
  iprop(atPos ER (sendCell c d) 1 ∅ 0 ∗ atPos ER (recvCell c d) 1 ∅ 0 ∗ srcTok m c d ∗ slot c d fullShare (landed m c))

/-- The waits. -/
theorem wait_loop (l : List (Fin 32)) (hl : l.Nodup) (h0 : 0 ∉ l) (k : KProg F) (Q : PUnit → sProp 𝕄) :
    iprop(records m K ∗ (∃ W, owes (c : Thread nD τ) 0 W) ∗ bigSep l.toFinset (waitPre c))
      ⊢ iprop((iprop((∃ W, owes (c : Thread nD τ) 0 W) ∗ bigSep l.toFinset (waitPost m c))
            -∗ wp frame (wpE (defs₀ (F := F)) 𝒱₀ (c : Thread nD τ) none) Set.univ k Q)
          -∗ wp frame (wpE (defs₀ (F := F)) 𝒱₀ (c : Thread nD τ) none) Set.univ (waitLoop l k) Q) := by
  induction l generalizing k with
  | nil =>
    iintro ⟨-, HO, H⟩ Hk
    iapply Hk
    isplitl [HO]; · iexact HO
    rw [List.toFinset_nil, bigSep_empty, bigSep_empty]; exact BI.Entails.refl _
  | cons d l ih =>
    have hd : d ≠ 0 := fun h => h0 (by rw [h]; exact List.mem_cons_self)
    have hnd : d ∉ l.toFinset := fun h => (List.nodup_cons.mp hl).1 (List.mem_toFinset.mp h)
    rw [List.toFinset_cons, sep_insert hnd, sep_insert hnd, waitLoop_cons, waitPre]
    iintro ⟨#HR, ⟨%W, HO⟩, Hd, Hrest⟩ Hk
    icases Hd with ⟨HcS, HcR, HaS, HaR⟩
    iapply (Rounds.wp_wait_rest_token 𝒱₀ ER (ringRd m) (c : Thread nD τ) none (κ := K (c, .inr (.inl d)))
        (wpE_waitDma2_eq 𝒱₀ (c : Thread nD τ) none Set.univ) (Set.mem_univ _) () (O := 0) (W := W) (R := 0) (m := 0) (T := ∅)
        (by rw [Nat.zero_add, expect_send m c d hd])) $$ [HcS HO HaS]
    · isplitr; · iapply (inv_at m K (c, .inr (.inl d))); iexact HR
      isplitl [HcS]; · iexact HcS
      isplitl [HO]; · iexact HO
      isplitr; · rw [MayWait_zero]; iempintro
      iexact HaS
    iintro ⟨HO, HaS, -, Hpay⟩
    ihave Hsrc := (Entails.of_eq (rest_send m c d hd)) $$ Hpay
    iapply (Rounds.wp_wait_rest_token 𝒱₀ ER (ringRd m) (c : Thread nD τ) none (κ := K (c, .inr (.inr d)))
        (wpE_waitDma2_eq 𝒱₀ (c : Thread nD τ) none Set.univ) (Set.mem_univ _) () (O := 0)
        (W := insert (SemLoc.dma (sendS d), ()) W) (R := 0) (m := 0) (T := ∅)
        (by rw [Nat.zero_add, expect_recv m c d hd])) $$ [HcR HO HaR]
    · isplitr; · iapply (inv_at m K (c, .inr (.inr d))); iexact HR
      isplitl [HcR]; · iexact HcR
      isplitl [HO]; · iexact HO
      isplitr; · rw [MayWait_zero]; iempintro
      iexact HaR
    iintro ⟨HO, HaR, -, Hpay⟩
    ihave Hslot := (Entails.of_eq (rest_recv m c d hd)) $$ Hpay
    iapply (ih (List.nodup_cons.mp hl).2 (fun h => h0 (List.mem_cons_of_mem _ h)) k) $$ [HO Hrest]
    · isplitr; · iexact HR
      isplitl [HO]; · iexists _; iexact HO
      iexact Hrest
    iintro ⟨HO, Hps⟩
    iapply Hk
    isplitl [HO]; · iexact HO
    isplitr [Hps]
    · unfold waitPost
      isplitl [HaS]; · iexact HaS
      isplitl [HaR]; · iexact HaR
      isplitl [Hsrc] <;> iassumption
    iexact Hps

end Cert.VocabProof

end
-- ==== Proof.Body.lean ====
/-
  The kernel's body on one device, from what the launch gives it to what it leaves.
-/
module

public import proofs.«01_k».proof.Proof.Loops

@[expose] public section

noncomputable section

namespace Cert.VocabProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the body starts from and ends with -/

/-- The ghost state of device `c`: the records; its position at its semaphores; the duties it pays. -/
def ghost (K : Dev nD × CIx → ℕ) (c : Dev nD) : sProp 𝕄 :=
  iprop(records m K
    ∗ atPos ER (barCell c) 0 ∅ 0 ∗ (bigSep Finset.univ fun d : Fin 32 => atPos ER (sendCell c d) 0 ∅ 0) ∗ (bigSep Finset.univ fun d : Fin 32 => atPos ER (recvCell c d) 0 ∅ 0)
    ∗ (bigSep Finset.univ fun e : Fin 32 => dutyTok ER (barCell (sh c e)) 0 (-e))
    ∗ (bigSep Finset.univ fun d : Fin 32 => dutyTok ER (sendCell c d) 0 0)
    ∗ (bigSep Finset.univ fun d : Fin 32 => dutyTok ER (recvCell (sh c d) d) 0 0))

/-- That at some names, the credits of its barrier and of its receive semaphores, and the levels. -/
def start (c : Dev nD) : sProp 𝕄 :=
  iprop((∃ K, ghost m K c) ∗ cred (tallyAt (barCell c) () 31) ∗ (bigSep (Finset.univ.erase (0 : Fin 32)) fun d => cred (tallyAt (recvCell c d) () N)) ∗ levAts L lv)

/-- The landing buffer whole. -/
def scr (c : Dev nD) (f : (cc0_scratch0 : Ref sig .tc).ty.Contents (Elt F)) : sProp 𝕄 := ((c : Thread nD τ).loc cc0_scratch0) ↦{fullShare} f

def Φ₀ (c : Dev nD) : sProp 𝕄 := iprop(start m c ∗ ∃ f, scr c f)
/-- At the end: the landing buffer full, and every semaphore at zero again. -/
def Φ₁ (c : Dev nD) : sProp 𝕄 :=
  iprop(scr c (landed m c) ∗ (bigSep Finset.univ fun d : Fin 32 => semVal (sendCell c d) 0) ∗ (bigSep Finset.univ fun d : Fin 32 => semVal (recvCell c d) 0) ∗ semVal (barCell c) 0)

/-- The proof data of the launch: the operands staged unchanged, the result the device's. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => labstg m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_in (w : Fin 4) (hw : w ≠ 3) (t : Fin cfg0.N) : (cfg0.win w).fetch t = true := by
  rw [fin_N0 t]; fin_cases w <;> first | rfl | exact absurd rfl hw

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The accesses -/

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A staging buffer of device `c` whole at contents `f`. -/
abbrev buf (c : Dev nD) (b : Ref sig .tc) (f : b.ty.Contents (Elt F)) : sProp 𝕄 := ((c : Thread nD τ).loc b) ↦{fullShare} f

/-- Slot 0 as part of the whole buffer. -/
def zero (c : Dev nD) (f : (cc0_scratch0 : Ref sig .tc).ty.Contents (Elt F)) : sProp 𝕄 :=
  gM.view.loc (c : Thread nD τ) ↦[(slotM 0).view.set]{fullShare} f

theorem slot_zero (c : Dev nD) (f : (cc0_scratch0 : Ref sig .tc).ty.Contents (Elt F)) : (slot c 0 fullShare f : sProp 𝕄) = zero c f := rfl

variable (c : Dev nD)

/-- The computation: from the operands, whatever slot 0 holds, to slot 0 as it is to be. -/
theorem compute_run (f : (cc0_scratch0 : Ref sig .tc).ty.Contents (Elt F)) (k : KProg F) (Q : PUnit → sProp 𝕄) :
    iprop(buf c cc0_stg0_0 (xstg m c) ∗ buf c cc0_stg1_0 (wstg m c) ∗ buf c cc0_stg2_0 (labstg m c) ∗ slot c 0 fullShare f)
      ⊢ iprop((iprop(buf c cc0_stg0_0 (xstg m c) ∗ buf c cc0_stg1_0 (wstg m c) ∗ buf c cc0_stg2_0 (labstg m c) ∗ slot c 0 fullShare (landed m c))
            -∗ wp frame (wpE (defs₀ (F := F)) 𝒱₀ (c : Thread nD τ) none) Set.univ k Q)
          -∗ wp frame (wpE (defs₀ (F := F)) 𝒱₀ (c : Thread nD τ) none) Set.univ (compute c k) Q) := by
  have hx : xM.view.readAt (Elt F) (Rect.unit (s := S256x512) ![0, 0] S256x512.size inb_S256x512_S256x512_0_0).toLoadRect (xstg m c) = xstg m c := Memref.readAt_unit_zero (Elt F) cc0_stg0_0 hz2 inb_S256x512_S256x512_0_0 (xstg m c)
  have hw : wM.view.readAt (Elt F) (Rect.unit (s := S512x4096) ![0, 0] S512x4096.size inb_S512x4096_S512x4096_0_0).toLoadRect (wstg m c) = wstg m c := Memref.readAt_unit_zero (Elt F) cc0_stg1_0 hz2 inb_S512x4096_S512x4096_0_0 (wstg m c)
  have hl : labM.view.readAt (Elt F) (Rect.unit (s := S256) ![0] S256.size inb_S256_S256_0).toLoadRect (labstg m c) = labstg m c := Memref.readAt_unit_zero (Elt F) cc0_stg2_0 hz1 inb_S256_S256_0 (labstg m c)
  have hs : (gM.view.loc (c : Thread nD τ) ↦[(slotM 0).view.set]{fullShare}
        (gM.access rowR1).write (Elt F) ((gM.access rowR0).write (Elt F) f (k0_pay3 (xstg m c) (wstg m c)) Finset.univ)
          (k0_pay4 (posW c) (xstg m c) (wstg m c) (labstg m c)) Finset.univ : sProp 𝕄)
      = (gM.view.loc (c : Thread nD τ) ↦[(slotM 0).view.set]{fullShare} landed m c) :=
    slot_congr c 0 fullShare fun i hi => stored (posW c) (xstg m c) (wstg m c) (labstg m c) (P m) c rfl f i hi
  rw [slot_zero, slot_zero]
  unfold zero compute
  iintro ⟨Hx, Hw, Hl, Hs⟩ Hk
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := labM) (Finset.subset_univ _)) $$ Hl; iintro Hl
  iapply (wp_load 𝒱₀ (c : Thread nD τ) none Set.univ (m := gM) row0_sub) $$ Hs; iintro Hs
  iapply (wp_store 𝒱₀ (c : Thread nD τ) none Set.univ (m := gM) (r := rowR0) (Mk := Finset.univ) row0_acc) $$ Hs; iintro Hs
  iapply (wp_load 𝒱₀ (c : Thread nD τ) none Set.univ (m := gM) row1_sub) $$ Hs; iintro Hs
  iapply (wp_store 𝒱₀ (c : Thread nD τ) none Set.univ (m := gM) (r := rowR1) (Mk := Finset.univ) row1_acc) $$ Hs; iintro Hs
  iapply Hk
  isplitl [Hx]; · iexact Hx
  isplitl [Hw]; · iexact Hw
  isplitl [Hl]; · iexact Hl
  rw [hx, hw, hl]
  iapply (Entails.of_eq hs)
  iexact Hs

/-- The end: the result stored from the landing buffer. -/
theorem finish_run (g : (cc0_stg3_0 : Ref sig .tc).ty.Contents (Elt F)) (Q : PUnit → sProp 𝕄) :
    iprop(scr c (landed m c) ∗ buf c cc0_stg3_0 g)
      ⊢ iprop((iprop(scr c (landed m c) ∗ buf c cc0_stg3_0 (outAt m c)) -∗ Q ⟨⟩)
          -∗ wp frame (wpE (defs₀ (F := F)) 𝒱₀ (c : Thread nD τ) none) Set.univ finish Q) := by
  have hg : gM.view.readAt (Elt F) (Rect.unit (s := S32x2x256) ![0, 0, 0] S32x2x256.size inb_S32x2x256_S32x2x256_0_0_0).toLoadRect (landed m c) = landed m c := Memref.readAt_unit_zero (Elt F) cc0_scratch0 hz3 inb_S32x2x256_S32x2x256_0_0_0 (landed m c)
  have ho (w : (cc0_stg3_0 : Ref sig .tc).ty.Contents (Elt F)) : (outM.access (Rect.unit (s := S256) ![0] S256.size inb_S256_S256_0) : View sig .tc _ _ _).write (Elt F) g w Finset.univ = w := Memref.write_access_unit_zero_univ (Elt F) cc0_stg3_0 hz1 inb_S256_S256_0 g w
  unfold scr finish
  iintro ⟨Hs, Ho⟩ Hk
  iapply (wp_load 𝒱₀ (c : Thread nD τ) none Set.univ (m := gM) (Finset.subset_univ _)) $$ Hs; iintro Hs
  rw [hg]
  iapply (wp_load 𝒱₀ (c : Thread nD τ) none Set.univ (m := outM) (Finset.subset_univ _)) $$ Ho; iintro Ho
  iapply (wp_store 𝒱₀ (c : Thread nD τ) none Set.univ (m := outM) (r := Rect.unit (s := S256) ![0] S256.size inb_S256_S256_0) (Mk := Finset.univ) (Finset.subset_univ _)) $$ Ho; iintro Ho
  rw [ho, wp_ret]; imodintro
  iapply Hk
  isplitl [Hs]; · iexact Hs
  iexact Ho

/-! ## The semaphores closed -/

/-- A family of semaphores, the one at 0 never used and each other past its round, closes: every counter is at zero. -/
theorem close_family (K : Dev nD × CIx → ℕ) (j : Fin 32 → CIx)
    (h0 : ∀ r, (ringRd (F := F) m).duties (kcell (c, j 0)) r = ∅) :
    iprop(records m K ∗ atPos ER (kcell (c, j 0)) 0 ∅ 0 ∗ bigSep (Finset.univ.erase (0 : Fin 32)) fun d => atPos ER (kcell (c, j d)) 1 ∅ 0)
      ⊢ (|={Set.univ}=> bigSep Finset.univ fun d : Fin 32 => semVal (kcell (c, j d)) 0 : sProp 𝕄) := by
  let R : Fin 32 → ℕ := fun d => if d = 0 then 0 else 1
  have hR : iprop(atPos ER (kcell (c, j 0)) 0 ∅ 0 ∗ bigSep (Finset.univ.erase (0 : Fin 32)) fun d => atPos ER (kcell (c, j d)) 1 ∅ 0)
      = (bigSep Finset.univ fun d : Fin 32 => atPos ER (kcell (c, j d)) (R d) ∅ 0 : sProp 𝕄) := by
    rw [bigSep_univ_at (fun d : Fin 32 => (atPos ER (kcell (c, j d)) (R d) ∅ 0 : sProp 𝕄)) 0]
    exact congrArg (fun X : sProp 𝕄 => iprop(atPos ER (kcell (c, j 0)) 0 ∅ 0 ∗ X)) (bigSep_congr fun d hd => by
      have : R d = 1 := if_neg (Finset.mem_erase.mp hd).1
      rw [this])
  have hI : records m K ⊢ (bigSep Finset.univ fun d : Fin 32 => cellInv ER (ringRd m) (K (c, j d)) (kcell (c, j d)) : sProp 𝕄) :=
    (BI.bigSep_of_persistent (Finset.univ : Finset (Fin 32)) (records m K)).trans (bigSep_mono fun d _ => inv_at m K (c, j d))
  rw [hR]
  refine BIBase.Entails.trans ?_ (Rounds.cells_close ER (ringRd m) Finset.univ (fun d => kcell (c, j d)) (fun d => K (c, j d)) (fun d _ => Set.mem_univ _)
    (fun d _ h => h) R (fun d _ r hr => ?_))
  · rw [bigSep_sep']
    exact sep_mono_left hI
  · by_cases hd : d = 0
    · subst hd; exact h0 r
    · have : R d = 1 := if_neg hd
      exact duties_later m _ r (by omega)

/-! ## The body -/

/-- A staging buffer of device `c` at contents that are `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost : sProp 𝕄 :=
  iprop(Φ₁ m c ∗ (dats m ρ 0 c).owesAt () t0_0.succ ∗ stg c cc0_stg0_0 (xstg m c) ∗ stg c cc0_stg1_0 (wstg m c) ∗ stg c cc0_stg2_0 (labstg m c)
    ∗ stg c cc0_stg3_0 (outAt m c))

omit [FloatOps F] in
/-- The landing buffer whole is slot 0 and the others, these named by the offsets' negatives; -/
theorem scr_split (f : (cc0_scratch0 : Ref sig .tc).ty.Contents (Elt F)) :
    (scr c f : sProp 𝕄) = iprop(slot c 0 fullShare f ∗ bigSep (Finset.univ.erase (0 : Fin 32)) fun e => slot c (-e) fullShare f) := by
  unfold scr
  rw [slots_eq, bigSep_univ_equiv (Equiv.neg (Fin 32)) (fun d => (slot c d fullShare f : sProp 𝕄)), bigSep_univ_at _ (0 : Fin 32)]
  rfl
omit [FloatOps F] in
/-- or by themselves. -/
theorem scr_join (f : (cc0_scratch0 : Ref sig .tc).ty.Contents (Elt F)) :
    (scr c f : sProp 𝕄) = iprop(slot c 0 fullShare f ∗ bigSep (Finset.univ.erase (0 : Fin 32)) fun e => slot c e fullShare f) := by
  unfold scr
  rw [slots_eq, bigSep_univ_at _ (0 : Fin 32)]

omit [FloatOps F] in
/-- A slot at any contents is what a signal hands over. -/
theorem sig_res (f : (cc0_scratch0 : Ref sig .tc).ty.Contents (Elt F)) (e : Fin 32) :
    iprop(dutyTok ER (barCell (sh c e)) 0 (-e) ∗ slot c (-e) fullShare f) ⊢ (sigRes c e : sProp 𝕄) := by
  unfold sigRes
  iintro ⟨H1, H2⟩
  isplitl [H1]; · iexact H1
  iexists f; iexact H2

set_option maxHeartbeats 800000 in
/-- The body. -/
theorem sound_body : bodyPre m ρ c ⊢ wp frame (wpE (defs₀ (F := F)) 𝒱₀ c none) Set.univ bodyProg (fun _ => bodyPost m ρ c) := by
  have h0 : (0 : Fin 32) ∉ offs := by decide
  unfold bodyPre Φ₀ start ghost bodyProg
  rw [wp_deviceId, sigDevs_eq, sendDevs_eq]
  iintro ⟨⟨⟨⟨%K, #HR, HaB, HaS, HaR, HtB, HtS, HtR⟩, HcB, HcR, #Hlev⟩, ⟨%f0, Hscr⟩⟩, Ho, ⟨%d0, %g0, %hg0, Hx⟩, ⟨%d1, %g1, %hg1, Hw⟩, ⟨%d2, %g2, %hg2, Hl⟩,
    ⟨%d3, %g3, %hg3, Hout⟩⟩
  have hx : g0 = xstg m c := by rw [hg0]; unfold Dat.before; rw [if_pos (fetch_in 0 (by decide) t0_0)]; rfl
  have hw : g1 = wstg m c := by rw [hg1]; unfold Dat.before; rw [if_pos (fetch_in 1 (by decide) t0_0)]; rfl
  have hl : g2 = labstg m c := by rw [hg2]; unfold Dat.before; rw [if_pos (fetch_in 2 (by decide) t0_0)]; rfl
  subst hx hw hl
  unfold Dat.owesAt Pipeline.owesWithin
  icases Ho with ⟨%W, %hW, HO⟩
  rw [show (dats m ρ 0 c).owed t0_0.castSucc = owedRecv c offs + owedBar c offs from rfl]
  -- the signals, each with a slot
  ihave Hs := (Entails.of_eq (scr_split c f0)) $$ Hscr
  icases Hs with ⟨Hs0, Hss⟩
  ihave HtB' := (Entails.of_eq (bigSep_univ_at (fun e : Fin 32 => (dutyTok ER (barCell (sh c e)) 0 (-e) : sProp 𝕄)) 0)) $$ HtB
  icases HtB' with ⟨-, HtB⟩
  iapply (sig_loop m K c offs offs_nodup h0 (owedRecv c offs) W) $$ [HO Hss HtB]
  · isplitr; · iexact HR
    isplitl [HO]; · iexact HO
    rw [offs_toFinset]
    iapply (show iprop((bigSep (Finset.univ.erase (0 : Fin 32)) fun e => dutyTok ER (barCell (sh c e)) 0 (-e))
        ∗ bigSep (Finset.univ.erase (0 : Fin 32)) fun e => slot c (-e) fullShare f0) ⊢ (bigSep (Finset.univ.erase (0 : Fin 32)) (sigRes c) : sProp 𝕄) from by
      rw [← bigSep_sep']
      exact bigSep_mono fun e _ => sig_res c f0 e)
    isplitl [HtB] <;> iassumption
  iintro HO
  -- the computation
  iapply (compute_run m c f0) $$ [Hx Hw Hl Hs0]
  · isplitl [Hx]; · iexact Hx
    isplitl [Hw]; · iexact Hw
    isplitl [Hl] <;> iassumption
  iintro ⟨Hx, Hw, Hl, Hs0⟩
  -- the wait at the barrier: every slot this device copies into comes with it
  iapply (Rounds.wp_wait_rest_token 𝒱₀ ER (ringRd m) (c : Thread nD τ) none (κ := K (c, .inl ()))
      (wpE_semWait_eq 𝒱₀ (c : Thread nD τ) none Set.univ) (Set.mem_univ _) () (O := owedRecv c offs) (W := W) (R := 0) (m := 0) (T := ∅)
      (by rw [expect_bar]; decide)) $$ [HcB HO HaB]
  · isplitr; · iapply (inv_at m K (c, .inl ())); iexact HR
    isplitl [HcB]; · iexact HcB
    isplitl [HO]; · iexact HO
    isplitr; · iapply (mayWait_bar c); iexact Hlev
    iexact HaB
  iintro ⟨HO, HaB, -, Hpay⟩
  ihave Hdst := (Entails.of_eq (rest_bar m c)) $$ Hpay
  -- the copies
  ihave Hsrc := (src_split m c).1 $$ Hs0
  icases Hsrc with ⟨Hsr, Hst⟩
  ihave Hst' := (Entails.of_eq (bigSep_univ_at (srcTok (F := F) m c) 0)) $$ Hst
  icases Hst' with ⟨Hst0, Hst⟩
  ihave HtS' := (Entails.of_eq (bigSep_univ_at (fun d : Fin 32 => (dutyTok ER (sendCell c d) 0 0 : sProp 𝕄)) 0)) $$ HtS
  icases HtS' with ⟨-, HtS⟩
  ihave HtR' := (Entails.of_eq (bigSep_univ_at (fun d : Fin 32 => (dutyTok ER (recvCell (sh c d) d) 0 0 : sProp 𝕄)) 0)) $$ HtR
  icases HtR' with ⟨-, HtR⟩
  rw [show owedRecv c offs = 0 + owedRecv c offs from (zero_add _).symm]
  iapply (send_loop m K c offs offs_nodup h0 0 (insert (SemLoc.reg barS, ()) W)) $$ [HO Hdst Hst HtS HtR]
  · isplitr; · iexact HR
    isplitl [HO]; · iexact HO
    rw [offs_toFinset]
    unfold sendRes
    rw [bigSep_sep', bigSep_sep', bigSep_sep']
    isplitl [Hdst]; · iexact Hdst
    isplitl [Hst]; · iexact Hst
    isplitl [HtS] <;> iassumption
  iintro ⟨HO, HcS⟩
  -- the waits
  ihave HaS' := (Entails.of_eq (bigSep_univ_at (fun d : Fin 32 => (atPos ER (sendCell c d) 0 ∅ 0 : sProp 𝕄)) 0)) $$ HaS
  icases HaS' with ⟨HaS0, HaS⟩
  ihave HaR' := (Entails.of_eq (bigSep_univ_at (fun d : Fin 32 => (atPos ER (recvCell c d) 0 ∅ 0 : sProp 𝕄)) 0)) $$ HaR
  icases HaR' with ⟨HaR0, HaR⟩
  iapply (wait_loop m K c offs offs_nodup h0) $$ [HO HcS HcR HaS HaR]
  · isplitr; · iexact HR
    isplitl [HO]; · iexists _; iexact HO
    rw [offs_toFinset]
    unfold waitPre
    rw [bigSep_sep', bigSep_sep', bigSep_sep']
    isplitl [HcS]; · iexact HcS
    isplitl [HcR]; · iexact HcR
    isplitl [HaS] <;> iassumption
  rw [offs_toFinset]
  unfold waitPost
  rw [bigSep_sep', bigSep_sep', bigSep_sep']
  iintro ⟨⟨%W', HO⟩, HaS, HaR, Hst, Hslots⟩
  -- the landing buffer whole again
  ihave Hs0 := (src_split m c).2 $$ [Hsr Hst0 Hst]
  · isplitl [Hsr]; · iexact Hsr
    rw [bigSep_univ_at (srcTok (F := F) m c) 0]
    isplitl [Hst0] <;> iassumption
  ihave Hscr := (Entails.of_eq (scr_join c (landed m c)).symm) $$ [Hs0 Hslots]
  · isplitl [Hs0] <;> iassumption
  -- the semaphores closed
  imod (close_family m c K (fun d => .inr (.inl d)) (duties_send_zero m c)) $$ [HaS0 HaS] with HzS
  · isplitr; · iexact HR
    isplitl [HaS0] <;> iassumption
  imod (close_family m c K (fun d => .inr (.inr d)) (duties_recv_zero m c)) $$ [HaR0 HaR] with HzR
  · isplitr; · iexact HR
    isplitl [HaR0] <;> iassumption
  imod (Rounds.cell_close ER (ringRd m) (Set.mem_univ (K (c, .inl ()))) (fun h => h) (R := 0 + 1) (duties_later m (barCell c))) $$ [HaB] with HzB
  · isplitr; · iapply (inv_at m K (c, .inl ())); iexact HR
    iexact HaB
  -- the end
  iapply (finish_run m c g3) $$ [Hscr Hout]
  · isplitl [Hscr] <;> iassumption
  iintro ⟨Hscr, Hout⟩
  unfold bodyPost Φ₁ Dat.owesAt Pipeline.owesWithin
  rw [show (dats m ρ 0 c).owed t0_0.succ = 0 from rfl]
  isplitl [Hscr HzS HzR HzB]
  · isplitl [Hscr]; · iexact Hscr
    isplitl [HzS]; · iexact HzS
    isplitl [HzR] <;> iassumption
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hl]
  · iexists _; isplitr; · (ipureintro; rfl)
    iexact Hl
  iexists _; isplitr; · (ipureintro; rfl)
  iexact Hout

set_option maxRecDepth 65536 in
/-- What the launch asks of the body. -/
theorem body_obligation : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (F := F) xM (Memref.isWhole_whole _) wM (Memref.isWhole_whole _) labM (Memref.isWhole_whole _)
      outM (Memref.isWhole_whole _) gM (Memref.isWhole_whole _) cc0_scratch1 cc0_scratch2) (fun _ => bodyPost m ρ c)
  rw [body_shape]
  exact sound_body m ρ c

end Cert.VocabProof

end
-- ==== Proof.Launch.lean ====
/-
  The launch: the semaphores dealt to the devices, the duties dealt to those that pay them, the credits, and the run of
  the whole program from any memory.
-/
module

public import proofs.«01_k».proof.Proof.Body
public import Idealize.ShloMosaic.Lib.Pipeline.CollectiveSegs

@[expose] public section

noncomputable section

namespace Cert.VocabProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch's own semaphores -/

theorem ownSemFacts : Pipeline.OwnSemFacts cfg0.spec osem where
  isScoped k := by rcases k with d | d <;> (revert d; decide)
  inj k k' h := Sum.inr_injective (csem_injective h)
  disj k w s h := by
    have h1 := congrArg role h
    rw [show role (osem k) = some (.inr k) from role_csem (.inr k)] at h1
    revert h1
    fin_cases w <;> fin_cases s <;> (intro h1; cases h1)

theorem share_eq (c : Dev nD) (w : Fin cfg0.W) : (dats m ρ 0 c).share w = fullShare := by unfold Dat.share; split <;> rfl

/-! ## The duties as minted and as paid -/

/-- Every semaphore of every device. -/
def ringCells : Finset (GSem nD τ sig) := Finset.univ.map ⟨kcell, kcell_injective⟩

/-- The duties of a device's own semaphores. -/
abbrev tokOf (cj : Dev nD × (Fin 32 ⊕ (Fin 32 ⊕ Fin 32))) : GSem nD τ sig × ℕ × Fin 32 := match cj.2 with
  | .inl e => (barCell cj.1, 0, e) | .inr (.inl d) => (sendCell cj.1 d, 0, 0) | .inr (.inr d) => (recvCell cj.1 d, 0, 0)

theorem tokOf_injective : Function.Injective (tokOf : Dev nD × (Fin 32 ⊕ (Fin 32 ⊕ Fin 32)) → GSem nD τ sig × ℕ × Fin 32) := by
  rintro ⟨c, j⟩ ⟨c', j'⟩ h
  have h1 := congrArg (fun x : GSem nD τ sig × ℕ × Fin 32 => x.1.1.1) h
  have h2 := congrArg (fun x : GSem nD τ sig × ℕ × Fin 32 => role x.1.2) h
  have h3 := congrArg (fun x : GSem nD τ sig × ℕ × Fin 32 => x.2.2) h
  rcases j with e | d | d <;> rcases j' with e' | d' | d' <;> dsimp only [tokOf] at h1 h2 h3 <;>
    simp only [role_bar, role_send, role_recv, Option.some.injEq, Sum.inr.injEq, Sum.inl.injEq, reduceCtorEq] at h2 <;>
    first | (subst h1; subst h3; rfl) | (subst h1; subst h2; rfl)
def ringToks : Finset (GSem nD τ sig × ℕ × Fin 32) := Finset.univ.map ⟨tokOf, tokOf_injective⟩

def u₀ : UU :=
  (initOf (Pipeline.cells cfgs cellOf_inj) (Pipeline.launchToks cfgs cellOf_inj), initOf ringCells ringToks)

/-- The duties of device `c`'s own semaphores. -/
def toks (c : Dev nD) : sProp 𝕄 :=
  iprop((bigSep Finset.univ fun e : Fin 32 => dutyTok ER (barCell c) 0 e) ∗ (bigSep Finset.univ fun d : Fin 32 => dutyTok ER (sendCell c d) 0 0)
    ∗ (bigSep Finset.univ fun d : Fin 32 => dutyTok ER (recvCell c d) 0 0))

/-- The duties device `c` pays. -/
def payToks (c : Dev nD) : sProp 𝕄 :=
  iprop((bigSep Finset.univ fun e : Fin 32 => dutyTok ER (barCell (sh c e)) 0 (-e)) ∗ (bigSep Finset.univ fun d : Fin 32 => dutyTok ER (sendCell c d) 0 0)
    ∗ (bigSep Finset.univ fun d : Fin 32 => dutyTok ER (recvCell (sh c d) d) 0 0))

/-- Device and offset seen from the other end. -/
def flipEquiv : Dev nD × Fin 32 ≃ Dev nD × Fin 32 where
  toFun x := (sh x.1 x.2, -x.2)
  invFun x := (sh x.1 x.2, -x.2)
  left_inv x := Prod.ext (sh_neg' x.1 x.2) (neg_neg (G := Fin 32) x.2)
  right_inv x := Prod.ext (sh_neg' x.1 x.2) (neg_neg (G := Fin 32) x.2)

omit [FloatOps F] in
/-- A family over devices and offsets, each pair replaced by its image under a bijection. -/
theorem deal (e : Dev nD × Fin 32 ≃ Dev nD × Fin 32) (Φ : Dev nD → Fin 32 → sProp 𝕄) :
    (bigSep Finset.univ fun c : Dev nD => bigSep Finset.univ fun d : Fin 32 => Φ c d)
      = bigSep Finset.univ fun c : Dev nD => bigSep Finset.univ fun d : Fin 32 => Φ (e (c, d)).1 (e (c, d)).2 := by
  rw [← bigSep_univ_prod (fun x : Dev nD × Fin 32 => Φ x.1 x.2), bigSep_univ_equiv e, bigSep_univ_prod]

omit [FloatOps F] in
/-- The duties dealt to the devices that pay them. -/
theorem toks_around : (bigSep Finset.univ fun c : Dev nD => (toks c : sProp 𝕄)) = bigSep Finset.univ fun c : Dev nD => payToks c := by
  unfold toks payToks
  rw [bigSep_sep', bigSep_sep', bigSep_sep', bigSep_sep',
    deal flipEquiv (fun c e => (dutyTok ER (barCell c) 0 e : sProp 𝕄)), deal shEquiv (fun c d => (dutyTok ER (recvCell c d) 0 0 : sProp 𝕄))]
  rfl

/-! ## The global step -/

/-- What the launch deals device `c`. -/
def G (c : Dev nD) : sProp 𝕄 :=
  iprop((bigSep Finset.univ fun k : CIx => roundState ER (ringRd m) (kcell (c, k)) 0)
    ∗ (bigSep Finset.univ fun k : CIx => iprop(atPos ER (kcell (c, k)) 0 ∅ 0 ∗ reached ER (kcell (c, k)) 0)) ∗ toks c)

/-- What the global step makes of it. -/
def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CIx => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [BI.bigSep_univ_sum, BI.bigSep_univ_sum]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- A family over a device's semaphores: its barrier's, its send semaphores', its receive semaphores'. -/
theorem bigSep_CIx (Φ : CIx → sProp 𝕄) :
    bigSep Finset.univ Φ = iprop(Φ (.inl ()) ∗ (bigSep Finset.univ fun d => Φ (.inr (.inl d))) ∗ (bigSep Finset.univ fun d => Φ (.inr (.inr d)))) := by
  rw [BI.bigSep_univ_sum, BI.bigSep_univ_sum, Finset.univ_unique, bigSep_singleton]; rfl

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun d : Fin 32 => semVal (sendCell c d) 0) ∗ (bigSep Finset.univ fun d : Fin 32 => semVal (recvCell c d) 0)) := by
  unfold Pipeline.ownSems0; rw [BI.bigSep_univ_sum]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CIx => semVal (kcell (c, k)) 0 : sProp 𝕄) := by
  rw [ownSems0_eq, unscopedSems0_eq, bigSep_CIx]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CIx => iprop(∃ κ : ℕ, cellInv ER (ringRd m) κ (kcell (c, k))))
          ∗ (bigSep Finset.univ fun k : CIx => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CIx => semVal (kcell (c, k)) 0) ∗ bigSep Finset.univ fun k : CIx => roundState ER (ringRd m) (kcell (c, k)) 0)
      ⊢ (|={Set.univ}=> bigSep Finset.univ fun k : CIx => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c`: its positions, and the duties it pays. -/
def linear (c : Dev nD) : sProp 𝕄 := iprop((bigSep Finset.univ fun k : CIx => atPos ER (kcell (c, k)) 0 ∅ 0) ∗ payToks c)

theorem ghost_intro (K : Dev nD × CIx → ℕ) (c : Dev nD) : iprop(records m K ∗ linear c) ⊢ G' m c := by
  unfold linear payToks G' ghost
  rw [bigSep_CIx]
  iintro ⟨#HR, ⟨HaB, HaS, HaV⟩, HtB, HtS, HtV⟩
  iexists K
  isplitr; · iexact HR
  isplitl [HaB]; · iexact HaB
  isplitl [HaS]; · iexact HaS
  isplitl [HaV]; · iexact HaV
  isplitl [HtB]; · iexact HtB
  isplitl [HtS] <;> iassumption

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CIx => iprop(∃ κ : ℕ, cellInv ER (ringRd m) κ (kcell (c, k))))
          ∗ (bigSep Finset.univ fun k : CIx => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CIx => iprop(∃ κ : ℕ, cellInv ER (ringRd m) κ (kcell ck))),
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', ← bigSep_univ_prod (fun ck : Dev nD × CIx => (reached ER (kcell ck) 0 : sProp 𝕄)), toks_around]
  iintro ⟨HI, ⟨Hat, #HR⟩, Htok⟩
  ihave HK := (BI.bigSep_exists_pi Finset.univ (fun (ck : Dev nD × CIx) (κ : ℕ) => (cellInv ER (ringRd m) κ (kcell ck) : sProp 𝕄))) $$ HI
  icases HK with ⟨%K, #HI⟩
  iapply (bigSep_with_persistent (R := records m K) fun c _ => ghost_intro m K c)
  isplitr
  · unfold records; isplitl; · iexact HI
    iexact HR
  · unfold linear
    rw [bigSep_sep']
    isplitl [Hat] <;> iassumption

/-- The global step. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credits -/

theorem kcell_eq_iff {a b : Dev nD} {k k' : CIx} : Iff (kcell (a, k) = kcell (b, k')) (a = b ∧ k = k') :=
  ⟨fun h => Prod.ext_iff.mp (kcell_injective h), fun h => by rw [h.1, h.2]⟩

theorem owed_apply (g' : Fin 32 → GSem nD τ sig) (n : ℕ) (g : GSem nD τ sig) :
    (offs.map fun e => (tallyAt (g' e) () n : CellTallies nD τ sig Unit)).sum g () = ∑ e ∈ Finset.univ.erase (0 : Fin 32), if g = g' e then n else 0 := by
  rw [← List.sum_toFinset (fun e => (tallyAt (g' e) () n : CellTallies nD τ sig Unit)) offs_nodup, offs_toFinset, Finset.sum_apply, Finsupp.finset_sum_apply]
  exact Finset.sum_congr rfl fun e _ => by rw [tallyAt_apply]; simp only [and_true]

/-- The devices whose step by `e` arrives at `c`: one. -/
theorem sum_arrive (c : Dev nD) (e : Fin 32) (n : ℕ) : (∑ d : Dev nD, if c = sh d e then n else 0) = n := by
  rw [Finset.sum_congr rfl fun d _ => if_congr (show c = sh d e ↔ sh c (-e) = d from
    ⟨fun h => by rw [h, sh_neg'], fun h => by rw [← h, sh_neg]⟩) rfl rfl, Finset.sum_ite_eq, if_pos (Finset.mem_univ _)]

theorem owed_bar (d c : Dev nD) : O₀ d (barCell c) () = ∑ e ∈ Finset.univ.erase (0 : Fin 32), if c = sh d e then 1 else 0 := by
  unfold O₀ owedRecv owedBar
  rw [Pi.add_apply, Finsupp.add_apply, owed_apply (fun e => recvCell (sh d e) e), owed_apply (fun e => barCell (sh d e))]
  rw [Finset.sum_eq_zero fun e _ => if_neg fun h => by
    have := (kcell_eq_iff (k := .inl ()) (k' := .inr (.inr e))).mp h; exact absurd this.2 (fun h => by cases h), Nat.zero_add]
  exact Finset.sum_congr rfl fun e _ => if_congr ((kcell_eq_iff (k := .inl ()) (k' := .inl ())).trans (and_iff_left rfl)) rfl rfl

theorem owed_recv (d c : Dev nD) (j : Fin 32) (hj : j ≠ 0) : O₀ d (recvCell c j) () = if c = sh d j then N else 0 := by
  unfold O₀ owedRecv owedBar
  rw [Pi.add_apply, Finsupp.add_apply, owed_apply (fun e => recvCell (sh d e) e), owed_apply (fun e => barCell (sh d e))]
  rw [Finset.sum_eq_zero (s := Finset.univ.erase (0 : Fin 32)) (f := fun e => if recvCell c j = barCell (sh d e) then 1 else 0) fun e _ => if_neg fun h => by
    have := (kcell_eq_iff (k := .inr (.inr j)) (k' := .inl ())).mp h; exact absurd this.2 (fun h => by cases h), Nat.add_zero]
  rw [Finset.sum_eq_single_of_mem j (Finset.mem_erase.mpr ⟨hj, Finset.mem_univ _⟩) fun e _ he => if_neg fun h => he (by
    have := (kcell_eq_iff (k := .inr (.inr j)) (k' := .inr (.inr e))).mp h
    exact (Sum.inr_injective (Sum.inr_injective this.2)).symm)]
  exact if_congr ((kcell_eq_iff (k := .inr (.inr j)) (k' := .inr (.inr j))).trans (and_iff_left rfl)) rfl rfl

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun e _ => sum_arrive c e 1, Finset.sum_const, smul_eq_mul, mul_one]
  rfl

theorem launch_recv (c : Dev nD) (j : Fin 32) (hj : j ≠ 0) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j hj, sum_arrive]

/-- Offset to receive semaphore, as an embedding. -/
def recvEmb : Fin 32 ↪ SemLoc sig := ⟨fun d => .dma (recvS d), fun d d' h => Sum.inr_injective (Sum.inr_injective (csem_injective h))⟩

omit [FloatOps F] in
theorem creds (c : Dev nD) :
    (Pipeline.launchCred O₀ c : sProp 𝕄)
      ⊢ iprop(cred (tallyAt (barCell c) () 31) ∗ bigSep (Finset.univ.erase (0 : Fin 32)) fun d => cred (tallyAt (recvCell c d) () N)) := by
  unfold Pipeline.launchCred
  rw [bigSep_univ_at _ (SemLoc.reg barS), launch_bar]
  refine sep_mono_right ?_
  have hsub : (Finset.univ.erase (0 : Fin 32)).map recvEmb ⊆ Finset.univ.erase (SemLoc.reg barS) := fun sm h => by
    obtain ⟨d, -, rfl⟩ := Finset.mem_map.mp h
    exact Finset.mem_erase.mpr ⟨(fun h => by cases h), Finset.mem_univ _⟩
  refine (bigSep_subset hsub).trans ?_
  rw [bigSep_map]
  refine bigSep_mono fun d hd => ?_
  rw [← launch_recv c d (Finset.mem_erase.mp hd).1]
  exact BI.Entails.refl _

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, ⟨%f, Hr⟩⟩
  isplitl [Hs]; · iexact Hs
  iexists f; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁ scr
  iintro ⟨Hr, HzS, HzV, HzB⟩
  isplitl [HzB]; · iexact HzB
  isplitl [HzS HzV]
  · isplitl [HzS] <;> iassumption
  iexists (landed m c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-- The arrays after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with the counters at zero, for any float values: every fair run of the 32 devices ends, each
    device's arrays at the contents computed here and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays hold after the run what they held. -/
theorem finalA_in (c : Dev nD) (w : Fin 4) (hw : w ≠ 3) : finalA m ρ c w = (s₀ m ρ).mem ((cfg0.win w).arr.view.loc (c : Thread nD τ)) :=
  (dats (F := F) m ρ 0 c).arrAt_in w (by fin_cases w <;> first | rfl | exact absurd rfl hw) _

end Cert.VocabProof

end
-- ==== Proof.Frames.lean ====
/-
  The frames of the three programs: each runs without fault, leaves its arguments as they were, and every counter at zero.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

@[expose] public section

noncomputable section

namespace Cert.VocabProof

open Idealize.ShloMosaic Idealize.SL.Sem

section Kernel

open Cert.KernelIdeal Cert.KernelIdeal.Gen Idealize.ShloMosaic.TcCoe

variable {F : FTy → Type} [FloatOps F]

/-- After a run, for any float values: device `c`'s arguments hold what they held. -/
theorem args_kept (m : (ℓ : Loc nD τ sig) → Buf (Elt F) ℓ) (ρ : Dev nD → PrngReg) (r : PUnit × MemSt nD τ sig (Elt F)) (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(h c (0 : Fin 4)).trans (finalA_in m ρ c 0 (by decide)), (h c (1 : Fin 4)).trans (finalA_in m ρ c 1 (by decide)),
    (h c (2 : Fin 4)).trans (finalA_in m ρ c 2 (by decide))⟩

end Kernel

section SameText

attribute [local instance] Cert.Kernel.Gen.facts Cert.KernelIdeal.Gen.facts

/-- The two printings of the kernel have one body table. -/
theorem bodies_eq : Cert.Kernel.defs₀ (F := Bits) = Cert.KernelIdeal.defs₀ (F := Bits) :=
  congrArg Defs.onTc (funext fun l => funext fun a => match l, a with | ⟨0, _⟩, (_, _) => rfl)

/-- The two printings of the kernel have one table of regions. -/
theorem tables_eq : Cert.Kernel.defs (F := Bits) = Cert.KernelIdeal.defs (F := Bits) :=
  congrArg (Pipeline.defs (Cert.KernelIdeal.pcfgs (F := Bits))) bodies_eq

/-- The two printings of the kernel have the same runs. -/
theorem runs_eq (m : (ℓ : Loc Cert.Kernel.nD Cert.Kernel.τ Cert.Kernel.sig) → Buf (Elt Bits) ℓ) (ρ : Dev Cert.Kernel.nD → PrngReg) :
    (θ_run (Cert.Kernel.defs (F := Bits)) (onTc (τ := Cert.Kernel.τ) (Cert.Kernel.main (F := Bits))) ⟨m, fun _ => 0, ρ⟩)
      = θ_run (Cert.KernelIdeal.defs (F := Bits)) (onTc (τ := Cert.KernelIdeal.τ) (Cert.KernelIdeal.main (F := Bits))) ⟨m, fun _ => 0, ρ⟩ :=
  congrArg (fun d => θ_run d (onTc (τ := Cert.KernelIdeal.τ) (Cert.KernelIdeal.main (F := Bits))) ⟨m, fun _ => 0, ρ⟩) tables_eq

end SameText

/-- The kernel over machine floats. -/
theorem frame_kernel : Cert.quiescent_Kernel (hKernel := Cert.Kernel.Gen.facts) := fun m ρ _ => by
  rw [runs_eq m ρ]
  exact (θ_run Cert.KernelIdeal.defs _ _).mono (fun r h => ⟨args_kept m ρ r h.1, h.2⟩) (run_main (F := Bits) m ρ)

/-- The kernel over the extended reals. -/
theorem frame_ideal : Cert.quiescent_KernelIdeal (hKernelIdeal := Cert.KernelIdeal.Gen.facts) := fun m ρ _ =>
  (θ_run Cert.KernelIdeal.defs _ _).mono (fun r h => ⟨args_kept m ρ r h.1, h.2⟩) (run_main (F := Ideal) m ρ)

/-- The reference over the extended reals. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩) (Cert.ReferenceIdeal.Value.run (F := Ideal) m ρ)

end Cert.VocabProof

end
-- ==== Proof.KernelValue.lean ====
/-
  The kernel's values at the ideal numbers, read at an index: the block of logits is a plain sum of products, a
  device's partial row 0 is the sum of the exponentials of its logits, its partial row 1 the sum of the logits its
  label's column selects, and the finished loss is the logarithm of the sum of the rows 0 less the sum of the rows 1.
-/
module

public import proofs.«01_k».proof.Proof.Gen.KernelIdeal.Skeleton
public import Idealize.ShloMosaic.Lib.ValueIdx
public import Idealize.ShloMosaic.Lib.Pipeline.Value
public import Idealize.ShloMosaic.PureOps.Ideal.Laws
public import Idealize.ShloMosaic.Lib.StableHlo.Predicate

@[expose] public section

noncomputable section

namespace Cert.VocabProof

open Cert.KernelIdeal Cert.KernelIdeal.Gen
open Idealize.ShloMosaic
open Idealize.ShloMosaic.ValueIdx

/-- The logit of token `t` at column `v`: the product of the token's row with the column. -/
def logit {n : Nat} (x : (⟨2, ![256, 512]⟩ : Shape).Idx → EReal) (w : (⟨2, ![512, n]⟩ : Shape).Idx → EReal)
    (t : Fin 256) (v : Fin n) : EReal :=
  ∑ k : Fin 512, x (ix2 t k) * w (ix2 k v)

/-- The block of logits at an index. -/
theorem pay2_apply (x : FVec Ideal S256x512 .f32) (w : FVec Ideal S512x4096 .f32) (t : Fin 256) (j : Fin 4096) :
    k0_pay2 (F := Ideal) x w (ix2 t j) = logit x w t j := by
  unfold k0_pay2
  simp only [matmul, shapeCast_self]
  rw [Ideal.matmul_constant_zero_apply]
  unfold logit
  rw [← Equiv.sum_comp (contrEquiv1 dot_S256x512_S512x4096_S256x4096_1_0_0_1_n_n 512 rfl rfl).symm]
  refine Finset.sum_congr rfl fun k _ => ?_
  congr 2
  · funext a; match a with
    | ⟨0, _⟩ => rfl
    | ⟨1, _⟩ => rfl
  · funext a; match a with
    | ⟨0, _⟩ => rfl
    | ⟨1, _⟩ => rfl

/-- A vector of 256 seen as [1, 1, 256] holds the same entries. -/
theorem cast_row {α : Type} (v : S256.Idx → α) (h : S256.ShapeCasts S1x1x256) (t : Fin 256) :
    shapeCast S1x1x256 v h (ix3 0 0 t) = v (ix1 t) :=
  shapeCast_apply v h _ _ (by rw [Shape.rowMajor_val_one, Shape.rowMajor_val_three]; simp)

/-- The sum along the columns of a [256, 4096] block, at a token. -/
theorem rowSum_apply (v : FVec Ideal S256x4096 .f32) (t : Fin 256) :
    multiReduction .add [1] S256 v 0x00000000#32 reduces_S256x4096_S256 (.inl rfl) rfl (ix1 t)
      = ∑ j : Fin 4096, v (ix2 t j) := by
  refine (Ideal.multiReduction_add_single v _ _ _ _ (ix1 t)).trans ?_
  refine Finset.sum_congr rfl fun k _ => congrArg v ?_
  funext a; match a with
  | ⟨0, _⟩ => rfl
  | ⟨1, _⟩ => rfl

/-- The sum over the 32 devices of a [32, 256] block, at a token. -/
theorem devSum_apply (v : FVec Ideal S32x256 .f32) (t : Fin 256) :
    multiReduction .add [0] S256 v 0x00000000#32 reduces_S32x256_S256 (.inl rfl) rfl (ix1 t)
      = ∑ d : Fin 32, v (ix2 d t) := by
  refine (Ideal.multiReduction_add_single v _ _ _ _ (ix1 t)).trans ?_
  refine Finset.sum_congr rfl fun k _ => congrArg v ?_
  funext a; match a with
  | ⟨0, _⟩ => rfl
  | ⟨1, _⟩ => rfl

/-- Row 0 of a device's partials: the sum of the exponentials of its logits. -/
theorem pay3_apply (x : FVec Ideal S256x512 .f32) (w : FVec Ideal S512x4096 .f32) (t : Fin 256) :
    k0_pay3 (F := Ideal) x w (ix3 0 0 t) = ∑ j : Fin 4096, Ideal.exp (logit x w t j) := by
  unfold k0_pay3
  dsimp only
  rw [cast_row, rowSum_apply]
  exact Finset.sum_congr rfl fun j _ => congrArg Ideal.exp (pay2_apply x w t j)

/-- Row 1 of a device's partials: the sum over its columns of the logit where the label, less the device's first
    column, names the column, and of zero elsewhere. -/
theorem pay4_apply (p : BitVec 32) (x : FVec Ideal S256x512 .f32) (w : FVec Ideal S512x4096 .f32) (lab : IVec S256 32) (t : Fin 256) :
    k0_pay4 (F := Ideal) p x w lab (ix3 0 0 t)
      = ∑ j : Fin 4096, if BitVec.ofNat 32 j.val = lab (ix1 t) - p * 4096#32 then logit x w t j else 0 := by
  unfold k0_pay4
  dsimp only
  rw [cast_row, rowSum_apply]
  refine Finset.sum_congr rfl fun j _ => ?_
  rw [select_apply]
  have hb : broadcastTo S256x4096 (shapeCast S256x1 (subi (shapeCast S256 lab shapeCasts_S256_S256)
      (broadcast S256 (Scalar.muli p 4096#32))) shapeCasts_S256_S256x1) broadcasts_S256x1_S256x4096 (ix2 t j)
      = lab (ix1 t) - p * 4096#32 := by
    rw [broadcastTo_apply _ _ _ (ix2 t 0) (by intro a; match a with
      | ⟨0, _⟩ => rfl
      | ⟨1, _⟩ => rfl), shapeCast_apply _ _ _ (ix1 t) (by rw [Shape.rowMajor_val_one, Shape.rowMajor_val_two]; simp), shapeCast_self]
    rfl
  have hi : iota .tc S256x4096 32 [1] iota_S256x4096_d1_w32 (ix2 t j) = BitVec.ofNat 32 j.val := iota_single_apply _ _ _ _ _ _
  show Scalar.select (IntOp.cmpi .eq (iota .tc S256x4096 32 [1] iota_S256x4096_d1_w32 (ix2 t j)) _) _ _ = _
  rw [hi, hb]
  by_cases h : BitVec.ofNat 32 j.val = lab (ix1 t) - p * 4096#32
  · rw [if_pos h, StableHlo.Predicate.cmpi_eq_iff.2 h, select_one, pay2_apply]
  · rw [if_neg h, eq_zero_of_ne_one (fun h' => h (StableHlo.Predicate.cmpi_eq_iff.1 h')), select_zero]
    exact Ideal.ofBits_zero_f32

/-- The finished loss at a token, from the gathered partials. -/
theorem pay1_apply (g : FVec Ideal S32x2x256 .f32) (t : Fin 256) :
    k0_pay1 (F := Ideal) g (k0_pay5 g) (ix1 t)
      = Ideal.log (∑ d : Fin 32, g (ix3 d 0 t)) - ∑ d : Fin 32, g (ix3 d 1 t) := by
  unfold k0_pay1 k0_pay5
  dsimp only
  rw [subf_apply]
  show Ideal.log _ - _ = _
  have hc : ∀ (v : S32x1x256.Idx → EReal) (d : Fin 32), shapeCast S32x256 v shapeCasts_S32x1x256_S32x256 (ix2 d t) = v (ix3 d 0 t) := fun v d =>
    shapeCast_apply v _ _ _ (by rw [Shape.rowMajor_val_two, Shape.rowMajor_val_three]; simp)
  rw [devSum_apply, devSum_apply]
  refine congrArg₂ (fun a b : EReal => Ideal.log a - b) ?_ ?_
  · refine Finset.sum_congr rfl fun d _ => ?_
    rw [hc]
    refine extractStridedSlice_apply _ _ _ _ _ (by intro a; match a with
      | ⟨0, _⟩ => simp
      | ⟨1, _⟩ => rfl
      | ⟨2, _⟩ => simp)
  · refine Finset.sum_congr rfl fun d _ => ?_
    rw [hc]
    refine extractStridedSlice_apply _ _ _ _ _ (by intro a; match a with
      | ⟨0, _⟩ => simp
      | ⟨1, _⟩ => rfl
      | ⟨2, _⟩ => simp)

end Cert.VocabProof
-- ==== Proof.Equation.lean ====
/-
  The mathematics of the loss over the extended reals. A sum over the 131072 columns is the sum over the 32 devices of
  the sums over their 4096 columns; the column a label names is found by exactly one device; and for real logits the
  logarithm of the sum of the exponentials does not change when a real number is taken off the logits and put back.
-/
module

public import proofs.«01_k».proof.Proof.KernelValue
public import Mathlib.Algebra.BigOperators.Fin
public import Mathlib.Data.Fintype.BigOperators

@[expose] public section

noncomputable section

namespace Cert.VocabProof

open Idealize.ShloMosaic
open Idealize.ShloMosaic.ValueIdx

/-! ## Columns -/

/-- Column `j` of device `e` among all the columns. -/
def col (e : Fin 32) (j : Fin 4096) : Fin 131072 := ⟨e.val * 4096 + j.val, by have := e.isLt; have := j.isLt; omega⟩

/-- A column is a device's column, in one way. -/
def colEquiv : Fin 32 × Fin 4096 ≃ Fin 131072 where
  toFun p := col p.1 p.2
  invFun v := (⟨v.val / 4096, by have := v.isLt; omega⟩, ⟨v.val % 4096, Nat.mod_lt _ (by decide)⟩)
  left_inv p := by
    have := p.2.isLt
    refine Prod.ext (Fin.ext ?_) (Fin.ext ?_)
    · show (p.1.val * 4096 + p.2.val) / 4096 = p.1.val; omega
    · show (p.1.val * 4096 + p.2.val) % 4096 = p.2.val; omega
  right_inv v := Fin.ext (by show v.val / 4096 * 4096 + v.val % 4096 = v.val; omega)

/-- The sum over the columns, device by device. -/
theorem sum_col (f : Fin 131072 → EReal) : ∑ e : Fin 32, ∑ j : Fin 4096, f (col e j) = ∑ v, f v := by
  rw [← Equiv.sum_comp colEquiv f, Fintype.sum_prod_type]
  rfl

/-- A label names a device's column exactly when it is that column among all. -/
theorem hit_iff (e : Fin 32) (j : Fin 4096) (lab : BitVec 32) (h : lab.toNat < 131072) :
    BitVec.ofNat 32 j.val = lab - BitVec.ofNat 32 e.val * 4096#32 ↔ col e j = ⟨lab.toNat, h⟩ := by
  have he := e.isLt
  have hj := j.isLt
  rw [Fin.ext_iff, ← BitVec.toNat_inj]
  simp only [BitVec.toNat_ofNat, BitVec.toNat_sub, BitVec.toNat_mul, col]
  omega

/-- The devices' masked sums come to the logit at the label's column. -/
theorem sum_hit (f : Fin 131072 → EReal) (lab : BitVec 32) (h : lab.toNat < 131072) :
    ∑ e : Fin 32, ∑ j : Fin 4096, (if BitVec.ofNat 32 j.val = lab - BitVec.ofNat 32 e.val * 4096#32 then f (col e j) else 0)
      = f ⟨lab.toNat, h⟩ := by
  simp only [hit_iff _ _ lab h]
  rw [sum_col (fun v => if v = ⟨lab.toNat, h⟩ then f v else 0), Finset.sum_ite_eq' Finset.univ]
  exact if_pos (Finset.mem_univ _)

/-! ## Real sums -/

/-- A sum of reals, taken among the extended reals. -/
theorem coe_sum {ι : Type} (s : Finset ι) (r : ι → ℝ) : ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

/-- The logits of finite operands are real. -/
theorem logit_real {n : Nat} (x : (⟨2, ![256, 512]⟩ : Shape).Idx → EReal) (w : (⟨2, ![512, n]⟩ : Shape).Idx → EReal)
    (hx : ∀ i, x i ≠ ⊥ ∧ x i ≠ ⊤) (hw : ∀ i, w i ≠ ⊥ ∧ w i ≠ ⊤) (t : Fin 256) (v : Fin n) : ∃ r : ℝ, logit x w t v = (r : EReal) := by
  refine ⟨∑ k : Fin 512, (x (ix2 t k)).toReal * (w (ix2 k v)).toReal, ?_⟩
  rw [coe_sum]
  refine Finset.sum_congr rfl fun k _ => ?_
  rw [EReal.coe_mul, EReal.coe_toReal (hx _).2 (hx _).1, EReal.coe_toReal (hw _).2 (hw _).1]

/-- The greatest of the reals of a nonempty family, folded from `⊥`, is real. -/
theorem fold_max_real {n : Nat} [NeZero n] (r : Fin n → ℝ) :
    ∃ M : ℝ, (Finset.univ : Finset (Fin n)).fold max ⊥ (fun v => (r v : EReal)) = (M : EReal) := by
  have key : ∀ s : Finset (Fin n), s.fold max ⊥ (fun v => (r v : EReal)) ≠ ⊤ := fun s =>
    ne_of_lt ((Finset.fold_max_lt _).2 ⟨bot_lt_top, fun v _ => EReal.coe_lt_top _⟩)
  have hb : (Finset.univ : Finset (Fin n)).fold max ⊥ (fun v => (r v : EReal)) ≠ ⊥ := by
    intro h
    have h0 : (r 0 : EReal) ≤ (Finset.univ : Finset (Fin n)).fold max ⊥ (fun v => (r v : EReal)) :=
      (Finset.le_fold_max _).2 (Or.inr ⟨0, Finset.mem_univ _, le_refl _⟩)
    rw [h] at h0
    exact EReal.coe_ne_bot _ (le_bot_iff.1 h0)
  exact ⟨_, (EReal.coe_toReal (key _) hb).symm⟩

/-- The logarithm of a positive real. -/
theorem log_coe {r : ℝ} (h : 0 < r) : Ideal.log (r : EReal) = (Real.log r : EReal) := if_neg (not_le.2 h)

/-- Taking `M` off real logits before the exponentials and adding it after the logarithm changes nothing. -/
theorem log_sum_exp_shift {n : Nat} [NeZero n] (r : Fin n → ℝ) (M : ℝ) :
    (M : EReal) + Ideal.log (∑ v, Ideal.exp ((r v : EReal) - (M : EReal))) = Ideal.log (∑ v, Ideal.exp (r v : EReal)) := by
  have h1 : (∑ v, Ideal.exp (r v : EReal)) = ((∑ v, Real.exp (r v) : ℝ) : EReal) := by
    rw [coe_sum]; rfl
  have h2 : (∑ v, Ideal.exp ((r v : EReal) - (M : EReal))) = ((∑ v, Real.exp (r v - M) : ℝ) : EReal) := by
    rw [coe_sum]; exact Finset.sum_congr rfl fun v _ => by rw [← EReal.coe_sub]; rfl
  have p1 : 0 < ∑ v, Real.exp (r v) := Finset.sum_pos (fun v _ => Real.exp_pos _) Finset.univ_nonempty
  have e : ∑ v, Real.exp (r v - M) = (∑ v, Real.exp (r v)) * Real.exp (-M) := by
    rw [Finset.sum_mul]
    exact Finset.sum_congr rfl fun v _ => by rw [← Real.exp_add, sub_eq_add_neg]
  have p2 : 0 < ∑ v, Real.exp (r v - M) := Finset.sum_pos (fun v _ => Real.exp_pos _) Finset.univ_nonempty
  rw [h1, h2, log_coe p1, log_coe p2, ← EReal.coe_add, e, Real.log_mul p1.ne' (Real.exp_pos _).ne', Real.log_exp]
  congr 1
  ring

/-! ## The loss -/

/-- The loss of token `t`: the logarithm of the sum of the exponentials of its logits, less the logit at its label. -/
def loss (x : (⟨2, ![256, 512]⟩ : Shape).Idx → EReal) (w : (⟨2, ![512, 131072]⟩ : Shape).Idx → EReal)
    (lab : (⟨1, ![256]⟩ : Shape).Idx → BitVec 32) (h : ∀ i, (lab i).toNat < 131072) (t : Fin 256) : EReal :=
  Ideal.log (∑ v : Fin 131072, Ideal.exp (logit x w t v)) - logit x w t ⟨(lab (ix1 t)).toNat, h _⟩

end Cert.VocabProof
-- ==== Proof.ReferenceValue.lean ====
/-
  The reference's result at the ideal numbers, read at a token: the greatest logit plus the logarithm of the sum of the
  exponentials of the logits less it, less the logit that the gather reads at the token's label. For real logits and a
  label that names a column this is the loss.
-/
module

public import proofs.«01_k».proof.Proof.Equation
public import proofs.«01_k».proof.Proof.Gen.ReferenceIdeal.Run

@[expose] public section

noncomputable section

namespace Cert.VocabProof.Ref

open Cert.ReferenceIdeal Cert.ReferenceIdeal.Gen
open Cert.VocabProof
open Idealize.ShloMosaic
open Idealize.ShloMosaic.ValueIdx

/-- The logits, -/
def dots (x : FVec Ideal S256x512 .f32) (w : FVec Ideal S512x131072 .f32) : FVec Ideal S256x131072 .f32 :=
  Host.dotGeneral dot_S256x512_S512x131072_S256x131072_1_0_0_1_n_n none x w

/-- each token's greatest, -/
def rowMax (x : FVec Ideal S256x512 .f32) (w : FVec Ideal S512x131072 .f32) : FVec Ideal S256 .f32 :=
  Host.reduce FloatOps.maximumf (dots x w) (constant S_ .f32 0xFF800000#32) reducesTo_S256x131072_S256_d1 h_S_

/-- the sums of the exponentials of the logits less it, -/
def expSum (x : FVec Ideal S256x512 .f32) (w : FVec Ideal S512x131072 .f32) : FVec Ideal S256 .f32 :=
  Host.reduceAdd (Host.exp (subf (dots x w) (broadcastInDim S256x131072 ![0, 1] bcast_S256x1_S256x131072_0_1
    (broadcastInDim S256x1 ![0] bcast_S256_S256x1_0 (rowMax x w))))) (constant S_ .f32 0x00000000#32) reducesTo_S256x131072_S256_d1 h_S_

/-- the positions the gather reads: the token's number and its label, each moved up by the extent where negative, -/
def positions (lab : IVec S256 32) : IVec S256x2 32 :=
  concatenate S256x2 1
    [⟨S256x1, broadcastInDim S256x1 ![0] bcast_S256_S256x1_0 (select (cmpi .slt (iotaInDim S256 32 0) (broadcastInDim S256 ![] bcast_S_S256 (constantI S_ 32 0#32)))
      (addi (iotaInDim S256 32 0) (broadcastInDim S256 ![] bcast_S_S256 (constantI S_ 32 256#32))) (iotaInDim S256 32 0))⟩,
     ⟨S256x1, broadcastInDim S256x1 ![0] bcast_S256_S256x1_0 (select (cmpi .slt lab (broadcastInDim S256 ![] bcast_S_S256 (constantI S_ 32 0#32)))
      (addi lab (broadcastInDim S256 ![] bcast_S_S256 (constantI S_ 32 131072#32))) lab)⟩]
    concatenates_S256x1_S256x1_S256x2_d1

/-- and the reference's result. -/
def out (x : FVec Ideal S256x512 .f32) (w : FVec Ideal S512x131072 .f32) (lab : IVec S256 32) : FVec Ideal S256 .f32 :=
  subf (shapeCast _ (addf (broadcastInDim S256x1 ![0] bcast_S256_S256x1_0 (rowMax x w))
      (Host.log (broadcastInDim S256x1 ![0] bcast_S256_S256x1_0 (expSum x w)))) shapeCasts_S256x1_S256)
    (Host.gather gather_S256x131072_S256x2_S256_n_01_n_n_01_1_11 (dots x w) (positions lab))

/-! ## Each read at an index -/

theorem dots_apply (x : FVec Ideal S256x512 .f32) (w : FVec Ideal S512x131072 .f32) (t : Fin 256) (v : Fin 131072) :
    dots x w (ix2 t v) = logit x w t v := by
  unfold dots
  simp only [Host.dotGeneral]
  rw [Ideal.dotGeneral_apply]
  unfold logit
  rw [← Equiv.sum_comp (contrEquiv1 dot_S256x512_S512x131072_S256x131072_1_0_0_1_n_n 512 rfl rfl).symm]
  refine Finset.sum_congr rfl fun k _ => ?_
  congr 2
  · funext a; match a with
    | ⟨0, _⟩ => rfl
    | ⟨1, _⟩ => rfl
  · funext a; match a with
    | ⟨0, _⟩ => rfl
    | ⟨1, _⟩ => rfl

/-- A vector stood up as a column. -/
theorem column_apply {α : Type} (v : S256.Idx → α) (t : Fin 256) (o : Fin 1) :
    broadcastInDim S256x1 ![0] bcast_S256_S256x1_0 v (ix2 t o) = v (ix1 t) :=
  broadcastInDim_apply _ _ _ _ _ (by intro a; match a with | ⟨0, _⟩ => rfl)

theorem log_apply {s : Shape} (v : FVec Ideal s .f32) (i : s.Idx) : Host.log v i = Ideal.log (v i) := rfl

/-- Dropping the columns keeps the token. -/
theorem reduces : S256x131072.Reduces [1] S256 := by decide

theorem lift_eq (t : Fin 256) (v : Fin 131072) : reduces.lift (ix1 t) v = (ix2 t v : S256x131072.Idx) := by
  funext a; match a with
  | ⟨0, _⟩ => rfl
  | ⟨1, _⟩ => rfl

theorem negInf : Ideal.ofBits .f32 0xFF800000#32 = (⊥ : EReal) := by simp [Ideal.ofBits, Ideal.ieee]

theorem rowMax_apply (x : FVec Ideal S256x512 .f32) (w : FVec Ideal S512x131072 .f32) (t : Fin 256) :
    rowMax x w (ix1 t) = (Finset.univ : Finset (Fin 131072)).fold max ⊥ (fun v => logit x w t v) := by
  refine (Host.reduce_eq_fold_single (max : EReal → EReal → EReal) (dots x w) _ reducesTo_S256x131072_S256_d1 reduces h_S_ (ix1 t)).trans ?_
  refine congrArg₂ (fun (b : EReal) (f : Fin 131072 → EReal) => (Finset.univ : Finset (Fin 131072)).fold max b f) negInf (funext fun v => ?_)
  exact (congrArg (dots x w) (lift_eq t v)).trans (dots_apply x w t v)

theorem expSum_apply (x : FVec Ideal S256x512 .f32) (w : FVec Ideal S512x131072 .f32) (t : Fin 256) :
    expSum x w (ix1 t) = ∑ v : Fin 131072, Ideal.exp (logit x w t v - rowMax x w (ix1 t)) := by
  refine (Ideal.hostReduceAdd_single reducesTo_S256x131072_S256_d1 reduces _ _ (ix1 t)).trans ?_
  rw [show (constant (F := Ideal) S_ .f32 0x00000000#32 (Shape.Idx.first h_S_) : EReal) = 0 from Ideal.ofBits_zero_f32, zero_add]
  refine Finset.sum_congr rfl fun v _ => ?_
  rw [show reduces.lift (ix1 t) v = (ix2 t v : S256x131072.Idx) from lift_eq t v]
  refine congrArg₂ (fun a b : EReal => Ideal.exp (a - b)) (dots_apply x w t v) ?_
  rw [broadcastInDim_apply _ _ _ _ (ix2 t 0) (by intro a; match a with
    | ⟨0, _⟩ => rfl
    | ⟨1, _⟩ => rfl), column_apply]

/-- A word that is a number below 2³¹ is not moved. -/
theorem unmoved (a b : BitVec 32) (h : a.toNat < 2 ^ 31) : Scalar.select (IntOp.cmpi .slt a 0#32) b a = a := by
  rw [eq_zero_of_ne_one fun h' => absurd ((StableHlo.Predicate.slt_iff_toNat h (by decide)).1 h') (Nat.not_lt_zero _), select_zero]

theorem positions_token (lab : IVec S256 32) (t : Fin 256) : positions lab (ix2 t 0) = BitVec.ofNat 32 t.val := by
  unfold positions
  rw [concatenate_pair_apply_left (t := S256x2) (s₁ := S256x1) 1 _ _ _ (ix2 t 0) rfl (ix2 t 0) (by intro a; match a with
    | ⟨0, _⟩ => rfl
    | ⟨1, _⟩ => rfl), column_apply]
  have ht := t.isLt
  exact unmoved (BitVec.ofNat 32 t.val) _ (by rw [BitVec.toNat_ofNat]; omega)

theorem positions_label (lab : IVec S256 32) (t : Fin 256) (h : (lab (ix1 t)).toNat < 131072) :
    positions lab (ix2 t 1) = lab (ix1 t) := by
  unfold positions
  rw [concatenate_pair_apply_right (t := S256x2) (s₁ := S256x1) (s₂ := S256x1) 1 _ _ _ (ix2 t 1) rfl rfl (ix2 t 0) (by intro a; match a with
    | ⟨0, _⟩ => exact fun _ => rfl
    | ⟨1, _⟩ => exact fun h => absurd rfl h) rfl, column_apply]
  exact unmoved (lab (ix1 t)) _ (by omega)

/-- The gather reads the logit of the token at its label. -/
theorem gather_apply (x : S256x131072.Idx → EReal) (lab : IVec S256 32) (t : Fin 256) (h : (lab (ix1 t)).toNat < 131072) :
    Host.gather gather_S256x131072_S256x2_S256_n_01_n_n_01_1_11 x (positions lab) (ix1 t) = x (ix2 t ⟨(lab (ix1 t)).toNat, h⟩) := by
  unfold Host.gather
  congr 1
  have hc : ∀ a : Fin 2, a ∈ gather_S256x131072_S256x2_S256_n_01_n_n_01_1_11.collapsedSliceDims := by
    intro a; show a ∈ ([0, 1] : List (Fin 2)); revert a; decide
  have hs : ∀ a : Fin 2, a ∈ gather_S256x131072_S256x2_S256_n_01_n_n_01_1_11.startIndexMap := by
    intro a; show a ∈ ([0, 1] : List (Fin 2)); revert a; decide
  have ho : ∀ a : Fin 2, (gather_S256x131072_S256x2_S256_n_01_n_n_01_1_11.operandIdx (ix1 t) (positions lab) a).val
      = gather_S256x131072_S256x2_S256_n_01_n_n_01_1_11.start (ix1 t) (positions lab) a := fun a => by
    show _ + _ + _ = _
    rw [GatherDims.batchCoord_eq_zero _ _ _ List.not_mem_nil,
      GatherDims.offCoord_eq_zero _ _ _ (fun h => ((GatherDims.mem_sKept _ _).mp h).1 (hc a)), Nat.add_zero]
  have ht := t.isLt
  funext a
  refine Fin.ext ((ho a).trans ?_)
  unfold GatherDims.start
  rw [dif_pos (hs a)]
  match a with
  | ⟨0, _⟩ =>
    rw [show gather_S256x131072_S256x2_S256_n_01_n_n_01_1_11.siIdx (ix1 t) ⟨List.idxOf (⟨0, by decide⟩ : Fin 2) gather_S256x131072_S256x2_S256_n_01_n_n_01_1_11.startIndexMap,
      List.idxOf_lt_length_iff.2 (hs _)⟩ = (ix2 t 0 : S256x2.Idx) from by
        funext b; refine Fin.ext ?_
        match b with
        | ⟨0, _⟩ => rfl
        | ⟨1, _⟩ => rfl, positions_token, StableHlo.Predicate.toInt_ofNat_small _ (by omega)]
    show min (t.val : ℤ).toNat (256 - 1) = t.val
    omega
  | ⟨1, _⟩ =>
    rw [show gather_S256x131072_S256x2_S256_n_01_n_n_01_1_11.siIdx (ix1 t) ⟨List.idxOf (⟨1, by decide⟩ : Fin 2) gather_S256x131072_S256x2_S256_n_01_n_n_01_1_11.startIndexMap,
      List.idxOf_lt_length_iff.2 (hs _)⟩ = (ix2 t 1 : S256x2.Idx) from by
        funext b; refine Fin.ext ?_
        match b with
        | ⟨0, _⟩ => rfl
        | ⟨1, _⟩ => rfl, positions_label lab t h, StableHlo.Predicate.toInt_eq_toNat_of_lt (by omega)]
    show min ((lab (ix1 t)).toNat : ℤ).toNat (131072 - 1) = (lab (ix1 t)).toNat
    omega

/-! ## The result -/

/-- On finite operands and labels that name columns, the reference's result is the loss. -/
theorem out_apply (x : FVec Ideal S256x512 .f32) (w : FVec Ideal S512x131072 .f32) (lab : IVec S256 32)
    (hx : ∀ i, x i ≠ ⊥ ∧ x i ≠ ⊤) (hw : ∀ i, w i ≠ ⊥ ∧ w i ≠ ⊤) (h : ∀ i, (lab i).toNat < 131072) (t : Fin 256) :
    out x w lab (ix1 t) = loss x w lab h t := by
  have hr : ∃ r : Fin 131072 → ℝ, ∀ v, logit x w t v = (r v : EReal) :=
    ⟨fun v => (logit_real x w hx hw t v).choose, fun v => (logit_real x w hx hw t v).choose_spec⟩
  obtain ⟨r, hr⟩ := hr
  obtain ⟨M, hM⟩ := fold_max_real r
  have hmax : rowMax x w (ix1 t) = (M : EReal) :=
    (rowMax_apply x w t).trans ((congrArg (fun f : Fin 131072 → EReal => (Finset.univ : Finset (Fin 131072)).fold max ⊥ f) (funext hr)).trans hM)
  have hlse : rowMax x w (ix1 t) + Ideal.log (expSum x w (ix1 t)) = Ideal.log (∑ v : Fin 131072, Ideal.exp (logit x w t v)) := by
    rw [expSum_apply, hmax]
    simp only [hr]
    exact log_sum_exp_shift r M
  have hcast : ∀ v : S256x1.Idx → EReal, shapeCast S256 v shapeCasts_S256x1_S256 (ix1 t) = v (ix2 t 0) := fun v =>
    shapeCast_apply v _ _ _ (by rw [Shape.rowMajor_val_one, Shape.rowMajor_val_two]; simp)
  unfold out loss
  rw [subf_apply, gather_apply _ lab t (h _), dots_apply, hcast, addf_apply, column_apply, log_apply, column_apply, hlse]

end Cert.VocabProof.Ref
-- ==== Proof.Algebraic.lean ====
/-
  The value claim. What a device's result holds after a run, read at a token, is the loss computed from the whole
  operands: the partials it has gathered are, in some order, those of all the devices; their rows 0 add up to the sum
  of the exponentials over all the columns, and of their rows 1 exactly one holds the logit at the label. The
  precondition gives the finiteness and the range of the labels that the reference's own form of the loss needs.
-/
module

public import proofs.«01_k».proof.Defs
public import proofs.«01_k».proof.Proof.Frames
public import proofs.«01_k».proof.Proof.ReferenceValue
public import Idealize.ShloMosaic.Lib.Layout

@[expose] public section

noncomputable section

namespace Cert.VocabProof

open Cert.KernelIdeal Cert.KernelIdeal.Gen
open Idealize.ShloMosaic Idealize.ShloMosaic.TcCoe Idealize.SL.Sem
open Idealize.ShloMosaic.ValueIdx

/-! ## The buffers -/

section Buffers

variable {F : FTy → Type} [FloatOps F] (m : (ℓ : Loc nD τ sig) → Buf (Elt F) ℓ) (ρ : Dev nD → PrngReg)

/-- Each argument is staged whole. -/
theorem xstg_eq (c : Dev nD) : xstg m c = m ((c : Thread nD τ).loc main_arg0) :=
  Memref.read_access_unit_zero (Elt F) main_arg0 (off := fun a => (win0_0.index t0_0) a * main_arg0.ty.shape.size a)
    (funext fun a => by fin_cases a <;> decide) (fun a => by fin_cases a <;> decide) _

theorem wstg_eq (c : Dev nD) : wstg m c = m ((c : Thread nD τ).loc main_arg1) :=
  Memref.read_access_unit_zero (Elt F) main_arg1 (off := fun a => (win0_1.index t0_0) a * main_arg1.ty.shape.size a)
    (funext fun a => by fin_cases a <;> decide) (fun a => by fin_cases a <;> decide) _

theorem labstg_eq (c : Dev nD) : labstg m c = m ((c : Thread nD τ).loc main_arg2) :=
  Memref.read_access_unit_zero (Elt F) main_arg2 (off := fun a => (win0_2.index t0_0) a * main_arg2.ty.shape.size a)
    (funext fun a => by fin_cases a <;> decide) (fun a => by fin_cases a <;> decide) _

/-- The result's one block, read back after the run, is what the body left. -/
theorem finalA_block (c : Dev nD) : (win0_3.blk t0_0).view.read (Elt F) (finalA m ρ c (3 : Fin 4)) = outAt m c := by
  unfold finalA
  rw [show cfg0.N = (t0_0 : Fin cfg0.N).val + 1 from rfl, (dats m ρ 0 c).arrAt_succ (3 : Fin 4) t0_0]
  rw [show (cfg0.win (3 : Fin 4)).flush t0_0 = true from by decide, if_pos rfl]
  exact View.read_write_univ _ _

/-- So the result's buffer holds it. -/
theorem finalA_out (c : Dev nD) : finalA m ρ c (3 : Fin 4) = outAt m c :=
  (Memref.read_access_unit_zero (Elt F) main_v1 (off := fun a => (win0_3.index t0_0) a * main_v1.ty.shape.size a)
    (funext fun a => by fin_cases a <;> decide) (fun a => by fin_cases a <;> decide) _).symm.trans (finalA_block m ρ c)

end Buffers

/-! ## The kernel's result -/

/-- A device's position is its number. -/
theorem posW_eq : ∀ c : Dev nD, posW c = BitVec.ofNat 32 c.val := by decide

/-- The senders of a device's slots are all the devices, each once. -/
def senders (c : Dev nD) : Fin 32 ≃ Dev nD where
  toFun d := sh c (-d)
  invFun e := ((c : Fin 32) - (e : Fin 32) : Fin 32)
  left_inv d := by
    show (c : Fin 32) - ((c : Fin 32) + -d) = d
    rw [← sub_eq_add_neg (G := Fin 32), sub_sub_cancel (G := Fin 32)]
  right_inv e := by
    show (c : Fin 32) + -((c : Fin 32) - (e : Fin 32)) = e
    rw [← sub_eq_add_neg (G := Fin 32), sub_sub_cancel (G := Fin 32)]

/-- The sum over a device's slots of something of their senders is the sum over the devices. -/
theorem sum_senders (c : Dev nD) (f : Fin 32 → EReal) : ∑ d : Fin 32, f (sh c (-d)) = ∑ e : Fin 32, f e :=
  Equiv.sum_comp (senders c) f

/-- The logits of a device's columns are the whole's. -/
theorem logit_block (x : (⟨2, ![256, 512]⟩ : Shape).Idx → EReal) (w : (⟨2, ![512, 131072]⟩ : Shape).Idx → EReal)
    (e : Fin 32) (t : Fin 256) (j : Fin 4096) :
    logit x (Layout.block ⟨2, ![512, 4096]⟩ ⟨2, ![512, 131072]⟩ 1 32 e w) t j = logit x w t (col e j) := by
  unfold logit
  refine Finset.sum_congr rfl fun k _ => congrArg (fun y => x (ix2 t k) * y) (congrArg w ?_)
  funext a; refine Fin.ext ?_
  rw [Layout.Tiles.idx_val]
  match a with
  | ⟨0, _⟩ => rfl
  | ⟨1, _⟩ => rfl

section Result

variable (m : (ℓ : Loc nD τ sig) → Buf (Elt Ideal) ℓ)
  (x : FVec Ideal S256x512 .f32) (w : FVec Ideal ⟨2, ![512, 131072]⟩ .f32) (lab : IVec S256 32)
  (hx : ∀ c : Dev nD, m ((c : Thread nD τ).loc main_arg0) = x)
  (hw : ∀ c : Dev nD, m ((c : Thread nD τ).loc main_arg1) = Layout.block ⟨2, ![512, 4096]⟩ ⟨2, ![512, 131072]⟩ 1 32 c w)
  (hl : ∀ c : Dev nD, m ((c : Thread nD τ).loc main_arg2) = lab)

include hx hw in
/-- Row 0 that device `e` sends. -/
theorem sent_zero (e : Dev nD) (t : Fin 256) : P m e 0 t = ∑ j : Fin 4096, Ideal.exp (logit x w t (col e j)) := by
  show k0_pay3 (xstg m e) (wstg m e) (ix3 0 0 t) = _
  rw [xstg_eq, wstg_eq, hx, hw, pay3_apply]
  exact Finset.sum_congr rfl fun j _ => congrArg Ideal.exp (logit_block x w e t j)

include hx hw hl in
/-- Row 1 that device `e` sends. -/
theorem sent_one (e : Dev nD) (t : Fin 256) :
    P m e 1 t = ∑ j : Fin 4096, if BitVec.ofNat 32 j.val = lab (ix1 t) - BitVec.ofNat 32 e.val * 4096#32 then logit x w t (col e j) else 0 := by
  show k0_pay4 (posW e) (xstg m e) (wstg m e) (labstg m e) (ix3 0 0 t) = _
  rw [xstg_eq, wstg_eq, labstg_eq, hx, hw, hl, posW_eq, pay4_apply]
  exact Finset.sum_congr rfl fun j _ => by rw [logit_block x w e t j]

include hx hw hl in
/-- Every device's result is the loss. -/
theorem outAt_apply (h : ∀ i, (lab i).toNat < 131072) (c : Dev nD) (t : Fin 256) : outAt m c (ix1 t) = loss x w lab h t := by
  have key : ∀ G : FVec Ideal S32x2x256 .f32, (∀ (d : Fin 32) (r : Fin 2), G (ix3 d r t) = P m (sh c (-d)) r t) →
      k0_pay1 (F := Ideal) G (k0_pay5 G) (ix1 t) = loss x w lab h t := fun G hG => by
    have h0 : ∑ d : Fin 32, G (ix3 d 0 t) = ∑ v : Fin 131072, Ideal.exp (logit x w t v) :=
      (Finset.sum_congr rfl fun d _ => (hG d 0).trans (sent_zero m x w hx hw _ t)).trans
        ((sum_senders c fun e => ∑ j : Fin 4096, Ideal.exp (logit x w t (col e j))).trans (sum_col fun v => Ideal.exp (logit x w t v)))
    have h1 : ∑ d : Fin 32, G (ix3 d 1 t) = logit x w t ⟨(lab (ix1 t)).toNat, h _⟩ :=
      (Finset.sum_congr rfl fun d _ => (hG d 1).trans (sent_one m x w lab hx hw hl _ t)).trans
        ((sum_senders c fun e => ∑ j : Fin 4096,
            if BitVec.ofNat 32 j.val = lab (ix1 t) - BitVec.ofNat 32 e.val * 4096#32 then logit x w t (col e j) else 0).trans
          (sum_hit (fun v => logit x w t v) (lab (ix1 t)) (h _)))
    rw [pay1_apply, h0, h1]
    rfl
  exact key (landed m c) fun _ _ => rfl

end Result

/-! ## The precondition -/

/-- A number whose absolute value is below infinity is neither infinity. -/
theorem finite_of (a : EReal) (h : Ideal.cmp .olt (max a (-a)) (Ideal.ofBits .f32 0x7F800000#32) = 1#1) : a ≠ ⊥ ∧ a ≠ ⊤ := by
  have hi : Ideal.ofBits .f32 0x7F800000#32 = (⊤ : EReal) := by simp [Ideal.ofBits, Ideal.ieee]
  rw [hi] at h
  have h' : max a (-a) < ⊤ := of_decide_eq_true ((StableHlo.Predicate.ofBool_eq_one_iff _).1 h)
  refine ⟨fun e => ?_, fun e => ?_⟩
  · subst e; simp at h'
  · subst e; simp at h'

/-- A word that is, signed, from 0 and below 131072, is so unsigned. -/
theorem label_of (a : BitVec 32) (h : IntOp.andi (IntOp.cmpi .sge a 0#32) (IntOp.cmpi .slt a 131072#32) = 1#1) : a.toNat < 131072 := by
  have h1 : IntOp.cmpi .sge a 0#32 = 1#1 ∧ IntOp.cmpi .slt a 131072#32 = 1#1 := by
    revert h
    generalize IntOp.cmpi .sge a 0#32 = p
    generalize IntOp.cmpi .slt a 131072#32 = q
    revert p q
    decide
  have g := of_decide_eq_true ((StableHlo.Predicate.ofBool_eq_one_iff _).1 h1.1)
  have l := of_decide_eq_true ((StableHlo.Predicate.ofBool_eq_one_iff _).1 h1.2)
  have e0 : (0#32 : BitVec 32).toInt = 0 := rfl
  have e1 : (131072#32 : BitVec 32).toInt = 131072 := rfl
  have hn := a.isLt
  have hc := BitVec.toInt_eq_toNat_cond a
  split at hc <;> omega

/-- The facts the precondition's text states, of a device's operands; -/
theorem preFacts : Cert.Pre_finite_labelled_KernelIdeal.Facts where
  bcast_S_S256x512 := by decide
  bcast_S_S512x4096 := by decide
  bcast_S_S256 := by decide

/-- and of the reference's. -/
theorem preFactsRef : Cert.Pre_finite_labelled_ReferenceIdeal.Facts where
  bcast_S_S256x512 := by decide
  bcast_S_S512x131072 := by decide
  bcast_S_S256 := by decide

attribute [local instance] preFacts

/-- What the precondition says of a device's operands. -/
theorem pre_reads (x : FVec Ideal S256x512 .f32) (w : FVec Ideal S512x4096 .f32) (lab : IVec S256 32)
    (h : (Cert.Pre_finite_labelled_KernelIdeal.fn (F := Ideal) x w lab).1 = (fun _ => 1#1)
      ∧ (Cert.Pre_finite_labelled_KernelIdeal.fn (F := Ideal) x w lab).2.1 = (fun _ => 1#1)
      ∧ (Cert.Pre_finite_labelled_KernelIdeal.fn (F := Ideal) x w lab).2.2 = (fun _ => 1#1)) :
    (∀ i, x i ≠ ⊥ ∧ x i ≠ ⊤) ∧ (∀ i, w i ≠ ⊥ ∧ w i ≠ ⊤) ∧ ∀ i, (lab i).toNat < 131072 :=
  ⟨fun i => finite_of (x i) (congrFun h.1 i), fun i => finite_of (w i) (congrFun h.2.1 i), fun i => label_of (lab i) (congrFun h.2.2 i)⟩

/-- If every device's block of the columns is finite, the whole is. -/
theorem whole_finite (w : FVec Ideal ⟨2, ![512, 131072]⟩ .f32) (b : Fin 32 → FVec Ideal ⟨2, ![512, 4096]⟩ .f32)
    (hb : ∀ c, b c = Layout.block ⟨2, ![512, 4096]⟩ ⟨2, ![512, 131072]⟩ 1 32 c w) (h : ∀ c i, b c i ≠ ⊥ ∧ b c i ≠ ⊤)
    (i : (⟨2, ![512, 131072]⟩ : Shape).Idx) : w i ≠ ⊥ ∧ w i ≠ ⊤ := by
  obtain ⟨⟨e, j⟩, hv⟩ := colEquiv.surjective (i 1)
  have hi : i = (show Layout.Tiles ⟨2, ![512, 4096]⟩ ⟨2, ![512, 131072]⟩ 1 32 by decide).idx e (ix2 (i 0) j) := by
    funext a; refine Fin.ext ?_
    rw [Layout.Tiles.idx_val]
    match a with
    | ⟨0, _⟩ => rfl
    | ⟨1, _⟩ => exact (congrArg Fin.val hv).symm
  have he := h e (ix2 (i 0) j)
  rw [hb e] at he
  rw [hi]
  exact he

/-! ## The claim -/

/-- On finite operands and labels that name columns, every device's result is the reference's. -/
theorem algebraic : Cert.algebraic_KernelIdeal_ReferenceIdeal_pre_finite_labelled_KernelIdeal (hKernelIdeal := Cert.KernelIdeal.Gen.facts)
    (hReferenceIdeal := Cert.ReferenceIdeal.Gen.facts) (hPre_finite_labelled_KernelIdeal := preFacts) := by
  intro m g m' g' hpre hagree
  have hx := fun c => (hagree c).1
  have hw := fun c => (hagree c).2.1
  have hl := fun c => (hagree c).2.2
  have hr := fun c => pre_reads _ _ _ (hpre c)
  have fx := (hr 0).1
  rw [hx 0] at fx
  have fl := (hr 0).2.2
  rw [hl 0] at fl
  have fw := whole_finite _ _ hw (fun c => (hr c).2.1)
  refine ⟨Ref.out _ _ _, (θ_run Cert.KernelIdeal.defs _ _).mono (fun r h c => ⟨?_, args_kept m g r h.1 c⟩) (run_main (F := Ideal) m g),
    (θ_run Cert.ReferenceIdeal.defs _ _).mono (fun r h => h 0) (Cert.ReferenceIdeal.Value.run (F := Ideal) m' g')⟩
  refine (h.1 c (3 : Fin 4)).trans ((finalA_out m g c).trans ?_)
  refine funext fun i : S256.Idx => ?_
  rw [eq_ix1 i]
  exact (outAt_apply m _ _ _ hx hw hl fl c (i 0)).trans (Ref.out_apply _ _ _ fx fw fl (i 0)).symm

end Cert.VocabProof
-- ==== Proof.lean ====
/-
  The claims of this certificate, assembled.
-/
module

public import proofs.«01_k».proof.Defs
public import proofs.«01_k».proof.Proof.Frames
public import proofs.«01_k».proof.Proof.Algebraic

@[expose] public section

noncomputable section

namespace Cert.Proof

open Idealize.ShloMosaic

/-- Every claim of the certificate. The frames that state the precondition are those that do not, which say more. -/
theorem claim : Cert.Claim := ⟨Cert.Kernel.Gen.facts, Cert.KernelIdeal.Gen.facts, Cert.ReferenceIdeal.Gen.facts,
  Cert.VocabProof.preFacts, Cert.VocabProof.preFactsRef,
  Cert.VocabProof.frame_kernel, Cert.VocabProof.frame_ideal, fun m ρ _ => Cert.VocabProof.frame_ideal m ρ trivial,
  Cert.VocabProof.frame_reference, fun m ρ _ => Cert.VocabProof.frame_reference m ρ trivial, trivial,
  Cert.VocabProof.algebraic⟩

end Cert.Proof

end
